-- ==== Defs.lean ====
def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Eig (m : (ℓ : Loc Cert.Eig.nD Cert.Eig.τ Cert.Eig.sig) → Buf (Elt Bits) ℓ) : Prop :=
  True

def Pre_EigIdeal (m : (ℓ : Loc Cert.EigIdeal.nD Cert.EigIdeal.τ Cert.EigIdeal.sig) → Buf (Elt Ideal) ℓ) : Prop :=
  True

def Pre_EigIdeal_unit_weights [hPre_unit_weights : Cert.Pre_unit_weights.Facts] (m : (ℓ : Loc Cert.EigIdeal.nD Cert.EigIdeal.τ Cert.EigIdeal.sig) → Buf (Elt Ideal) ℓ) : Prop :=
  ∀ c : Dev Cert.EigIdeal.nD,
    (Cert.Pre_unit_weights.fn (F := Ideal) (m ((c.tc : Thread Cert.EigIdeal.nD Cert.EigIdeal.τ).loc Cert.EigIdeal.main_arg0))) = (fun _ => 1#1)

def Pre_JacobiIdeal (m : (ℓ : Loc Cert.JacobiIdeal.nD Cert.JacobiIdeal.τ Cert.JacobiIdeal.sig) → Buf (Elt Ideal) ℓ) : Prop :=
  True

def Pre_JacobiIdeal_unit_weights [hPre_unit_weights : Cert.Pre_unit_weights.Facts] (m : (ℓ : Loc Cert.JacobiIdeal.nD Cert.JacobiIdeal.τ Cert.JacobiIdeal.sig) → Buf (Elt Ideal) ℓ) : Prop :=
  ∀ c : Dev Cert.JacobiIdeal.nD,
    (Cert.Pre_unit_weights.fn (F := Ideal) (m ((c.tc : Thread Cert.JacobiIdeal.nD Cert.JacobiIdeal.τ).loc Cert.JacobiIdeal.main_arg0))) = (fun _ => 1#1)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8)
      ∧ r.2.mem ((c.tc : Thread Cert.Mixer.nD Cert.Mixer.τ).loc Cert.Mixer.main_arg9) = m ((c.tc : Thread Cert.Mixer.nD Cert.Mixer.τ).loc Cert.Mixer.main_arg9)
      ∧ r.2.mem ((c.tc : Thread Cert.Mixer.nD Cert.Mixer.τ).loc Cert.Mixer.main_arg10) = m ((c.tc : Thread Cert.Mixer.nD Cert.Mixer.τ).loc Cert.Mixer.main_arg10)
      ∧ r.2.mem ((c.tc : Thread Cert.Mixer.nD Cert.Mixer.τ).loc Cert.Mixer.main_arg11) = m ((c.tc : Thread Cert.Mixer.nD Cert.Mixer.τ).loc Cert.Mixer.main_arg11)
      ∧ r.2.mem ((c.tc : Thread Cert.Mixer.nD Cert.Mixer.τ).loc Cert.Mixer.main_arg12) = m ((c.tc : Thread Cert.Mixer.nD Cert.Mixer.τ).loc Cert.Mixer.main_arg12))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
      ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
      ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_Eig [hEig : Cert.Eig.Facts] : Prop :=
  ∀ (m : (ℓ : Loc Cert.Eig.nD Cert.Eig.τ Cert.Eig.sig) → Buf (Elt Bits) ℓ) (g : Dev Cert.Eig.nD → PrngReg), Pre_Eig m →
    θ_run (Cert.Eig.defs (F := Bits)) (onTc (τ := Cert.Eig.τ) (Cert.Eig.main (F := Bits))) ⟨m, fun _ => 0, g⟩ (fun r => (∀ c : Dev Cert.Eig.nD,
      r.2.mem ((c.tc : Thread Cert.Eig.nD Cert.Eig.τ).loc Cert.Eig.main_arg0) = m ((c.tc : Thread Cert.Eig.nD Cert.Eig.τ).loc Cert.Eig.main_arg0))
      ∧ r.2.sem = fun _ => 0)

def quiescent_EigIdeal [hEigIdeal : Cert.EigIdeal.Facts] : Prop :=
  ∀ (m : (ℓ : Loc Cert.EigIdeal.nD Cert.EigIdeal.τ Cert.EigIdeal.sig) → Buf (Elt Ideal) ℓ) (g : Dev Cert.EigIdeal.nD → PrngReg), Pre_EigIdeal m →
    θ_run (Cert.EigIdeal.defs (F := Ideal)) (onTc (τ := Cert.EigIdeal.τ) (Cert.EigIdeal.main (F := Ideal))) ⟨m, fun _ => 0, g⟩ (fun r => (∀ c : Dev Cert.EigIdeal.nD,
      r.2.mem ((c.tc : Thread Cert.EigIdeal.nD Cert.EigIdeal.τ).loc Cert.EigIdeal.main_arg0) = m ((c.tc : Thread Cert.EigIdeal.nD Cert.EigIdeal.τ).loc Cert.EigIdeal.main_arg0))
      ∧ r.2.sem = fun _ => 0)

def quiescent_EigIdeal_pre_unit_weights [hEigIdeal : Cert.EigIdeal.Facts] [hPre_unit_weights : Cert.Pre_unit_weights.Facts] : Prop :=
  ∀ (m : (ℓ : Loc Cert.EigIdeal.nD Cert.EigIdeal.τ Cert.EigIdeal.sig) → Buf (Elt Ideal) ℓ) (g : Dev Cert.EigIdeal.nD → PrngReg), Pre_EigIdeal_unit_weights m →
    θ_run (Cert.EigIdeal.defs (F := Ideal)) (onTc (τ := Cert.EigIdeal.τ) (Cert.EigIdeal.main (F := Ideal))) ⟨m, fun _ => 0, g⟩ (fun r => (∀ c : Dev Cert.EigIdeal.nD,
      r.2.mem ((c.tc : Thread Cert.EigIdeal.nD Cert.EigIdeal.τ).loc Cert.EigIdeal.main_arg0) = m ((c.tc : Thread Cert.EigIdeal.nD Cert.EigIdeal.τ).loc Cert.EigIdeal.main_arg0))
      ∧ r.2.sem = fun _ => 0)

def quiescent_JacobiIdeal [hJacobiIdeal : Cert.JacobiIdeal.Facts] : Prop :=
  ∀ (m : (ℓ : Loc Cert.JacobiIdeal.nD Cert.JacobiIdeal.τ Cert.JacobiIdeal.sig) → Buf (Elt Ideal) ℓ) (g : Dev Cert.JacobiIdeal.nD → PrngReg), Pre_JacobiIdeal m →
    θ_run (Cert.JacobiIdeal.defs (F := Ideal)) (onTc (τ := Cert.JacobiIdeal.τ) (Cert.JacobiIdeal.main (F := Ideal))) ⟨m, fun _ => 0, g⟩ (fun r => (∀ c : Dev Cert.JacobiIdeal.nD,
      r.2.mem ((c.tc : Thread Cert.JacobiIdeal.nD Cert.JacobiIdeal.τ).loc Cert.JacobiIdeal.main_arg0) = m ((c.tc : Thread Cert.JacobiIdeal.nD Cert.JacobiIdeal.τ).loc Cert.JacobiIdeal.main_arg0))
      ∧ r.2.sem = fun _ => 0)

def quiescent_JacobiIdeal_pre_unit_weights [hJacobiIdeal : Cert.JacobiIdeal.Facts] [hPre_unit_weights : Cert.Pre_unit_weights.Facts] : Prop :=
  ∀ (m : (ℓ : Loc Cert.JacobiIdeal.nD Cert.JacobiIdeal.τ Cert.JacobiIdeal.sig) → Buf (Elt Ideal) ℓ) (g : Dev Cert.JacobiIdeal.nD → PrngReg), Pre_JacobiIdeal_unit_weights m →
    θ_run (Cert.JacobiIdeal.defs (F := Ideal)) (onTc (τ := Cert.JacobiIdeal.τ) (Cert.JacobiIdeal.main (F := Ideal))) ⟨m, fun _ => 0, g⟩ (fun r => (∀ c : Dev Cert.JacobiIdeal.nD,
      r.2.mem ((c.tc : Thread Cert.JacobiIdeal.nD Cert.JacobiIdeal.τ).loc Cert.JacobiIdeal.main_arg0) = m ((c.tc : Thread Cert.JacobiIdeal.nD Cert.JacobiIdeal.τ).loc Cert.JacobiIdeal.main_arg0))
      ∧ r.2.sem = fun _ => 0)

def preserves_Mixer_MixerIdeal : Prop :=
  True

def algebraic_MixerIdeal_ReferenceIdeal [hMixerIdeal : Cert.MixerIdeal.Facts] [hReferenceIdeal : Cert.ReferenceIdeal.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_MixerIdeal m →
    (∀ c : Dev Cert.MixerIdeal.nD,
      m' ((c.tc : Thread Cert.ReferenceIdeal.nD Cert.ReferenceIdeal.τ).loc Cert.ReferenceIdeal.main_arg0) = m ((c.tc : Thread Cert.MixerIdeal.nD Cert.MixerIdeal.τ).loc Cert.MixerIdeal.main_arg0)
      ∧ m' ((c.tc : Thread Cert.ReferenceIdeal.nD Cert.ReferenceIdeal.τ).loc Cert.ReferenceIdeal.main_arg1) = m ((c.tc : Thread Cert.MixerIdeal.nD Cert.MixerIdeal.τ).loc Cert.MixerIdeal.main_arg1)
      ∧ m' ((c.tc : Thread Cert.ReferenceIdeal.nD Cert.ReferenceIdeal.τ).loc Cert.ReferenceIdeal.main_arg2) = m ((c.tc : Thread Cert.MixerIdeal.nD Cert.MixerIdeal.τ).loc Cert.MixerIdeal.main_arg2)
      ∧ m' ((c.tc : Thread Cert.ReferenceIdeal.nD Cert.ReferenceIdeal.τ).loc Cert.ReferenceIdeal.main_arg3) = m ((c.tc : Thread Cert.MixerIdeal.nD Cert.MixerIdeal.τ).loc Cert.MixerIdeal.main_arg3)
      ∧ m' ((c.tc : Thread Cert.ReferenceIdeal.nD Cert.ReferenceIdeal.τ).loc Cert.ReferenceIdeal.main_arg4) = m ((c.tc : Thread Cert.MixerIdeal.nD Cert.MixerIdeal.τ).loc Cert.MixerIdeal.main_arg4)
      ∧ m' ((c.tc : Thread Cert.ReferenceIdeal.nD Cert.ReferenceIdeal.τ).loc Cert.ReferenceIdeal.main_arg5) = m ((c.tc : Thread Cert.MixerIdeal.nD Cert.MixerIdeal.τ).loc Cert.MixerIdeal.main_arg5)
      ∧ m' ((c.tc : Thread Cert.ReferenceIdeal.nD Cert.ReferenceIdeal.τ).loc Cert.ReferenceIdeal.main_arg6) = m ((c.tc : Thread Cert.MixerIdeal.nD Cert.MixerIdeal.τ).loc Cert.MixerIdeal.main_arg6)
      ∧ m' ((c.tc : Thread Cert.ReferenceIdeal.nD Cert.ReferenceIdeal.τ).loc Cert.ReferenceIdeal.main_arg7) = m ((c.tc : Thread Cert.MixerIdeal.nD Cert.MixerIdeal.τ).loc Cert.MixerIdeal.main_arg7)
      ∧ m' ((c.tc : Thread Cert.ReferenceIdeal.nD Cert.ReferenceIdeal.τ).loc Cert.ReferenceIdeal.main_arg8) = m ((c.tc : Thread Cert.MixerIdeal.nD Cert.MixerIdeal.τ).loc Cert.MixerIdeal.main_arg8)
      ∧ m' ((c.tc : Thread Cert.ReferenceIdeal.nD Cert.ReferenceIdeal.τ).loc Cert.ReferenceIdeal.main_arg9) = m ((c.tc : Thread Cert.MixerIdeal.nD Cert.MixerIdeal.τ).loc Cert.MixerIdeal.main_arg9)
      ∧ m' ((c.tc : Thread Cert.ReferenceIdeal.nD Cert.ReferenceIdeal.τ).loc Cert.ReferenceIdeal.main_arg10) = m ((c.tc : Thread Cert.MixerIdeal.nD Cert.MixerIdeal.τ).loc Cert.MixerIdeal.main_arg10)
      ∧ m' ((c.tc : Thread Cert.ReferenceIdeal.nD Cert.ReferenceIdeal.τ).loc Cert.ReferenceIdeal.main_arg11) = m ((c.tc : Thread Cert.MixerIdeal.nD Cert.MixerIdeal.τ).loc Cert.MixerIdeal.main_arg11)
      ∧ m' ((c.tc : Thread Cert.ReferenceIdeal.nD Cert.ReferenceIdeal.τ).loc Cert.ReferenceIdeal.main_arg12) = m ((c.tc : Thread Cert.MixerIdeal.nD Cert.MixerIdeal.τ).loc Cert.MixerIdeal.main_arg12)) →
    ∃ (v0 : (c : Dev Cert.MixerIdeal.nD) → Buf (Elt Ideal) ((c.tc : Thread Cert.MixerIdeal.nD Cert.MixerIdeal.τ).loc Cert.MixerIdeal.main_v10)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v10) = v0 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
          ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
          ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
          ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
          ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
          ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
          ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Kernel_KernelIdeal : Prop :=
  IdealRules.sign_bit.Statement Cert.KernelIdeal.S1x512 .f32

def preserves_Eig_EigIdeal : Prop :=
  IdealRules.sign_bit.Statement Cert.EigIdeal.S1x512 .f32

def algebraic_EigIdeal_JacobiIdeal_pre_unit_weights [hEigIdeal : Cert.EigIdeal.Facts] [hJacobiIdeal : Cert.JacobiIdeal.Facts] [hPre_unit_weights : Cert.Pre_unit_weights.Facts] : Prop :=
  ∀ (m : (ℓ : Loc Cert.EigIdeal.nD Cert.EigIdeal.τ Cert.EigIdeal.sig) → Buf (Elt Ideal) ℓ) (g : Dev Cert.EigIdeal.nD → PrngReg)
    (m' : (ℓ : Loc Cert.JacobiIdeal.nD Cert.JacobiIdeal.τ Cert.JacobiIdeal.sig) → Buf (Elt Ideal) ℓ) (g' : Dev Cert.JacobiIdeal.nD → PrngReg), Pre_EigIdeal_unit_weights m →
    (∀ c : Dev Cert.EigIdeal.nD,
      m' ((c.tc : Thread Cert.JacobiIdeal.nD Cert.JacobiIdeal.τ).loc Cert.JacobiIdeal.main_arg0) = m ((c.tc : Thread Cert.EigIdeal.nD Cert.EigIdeal.τ).loc Cert.EigIdeal.main_arg0)) →
    ∃ (v0 : (c : Dev Cert.EigIdeal.nD) → Buf (Elt Ideal) ((c.tc : Thread Cert.EigIdeal.nD Cert.EigIdeal.τ).loc Cert.EigIdeal.main_v3)),
      θ_run (Cert.EigIdeal.defs (F := Ideal)) (onTc (τ := Cert.EigIdeal.τ) (Cert.EigIdeal.main (F := Ideal))) ⟨m, fun _ => 0, g⟩ (fun r => ∀ c : Dev Cert.EigIdeal.nD,
          r.2.mem ((c.tc : Thread Cert.EigIdeal.nD Cert.EigIdeal.τ).loc Cert.EigIdeal.main_v3) = v0 c
          ∧ r.2.mem ((c.tc : Thread Cert.EigIdeal.nD Cert.EigIdeal.τ).loc Cert.EigIdeal.main_arg0) = m ((c.tc : Thread Cert.EigIdeal.nD Cert.EigIdeal.τ).loc Cert.EigIdeal.main_arg0))
      ∧ θ_run (Cert.JacobiIdeal.defs (F := Ideal)) (onTc (τ := Cert.JacobiIdeal.τ) (Cert.JacobiIdeal.main (F := Ideal))) ⟨m', fun _ => 0, g'⟩ (fun r => ∀ c : Dev Cert.JacobiIdeal.nD,
          r.2.mem ((c.tc : Thread Cert.JacobiIdeal.nD Cert.JacobiIdeal.τ).loc Cert.JacobiIdeal.main_v61) = v0 c
          ∧ r.2.mem ((c.tc : Thread Cert.JacobiIdeal.nD Cert.JacobiIdeal.τ).loc Cert.JacobiIdeal.main_arg0) = m' ((c.tc : Thread Cert.JacobiIdeal.nD Cert.JacobiIdeal.τ).loc Cert.JacobiIdeal.main_arg0))

def Claim : Prop :=
  ∃ (hMixer : Cert.Mixer.Facts) (hMixerIdeal : Cert.MixerIdeal.Facts) (hReferenceIdeal : Cert.ReferenceIdeal.Facts) (hKernel : Cert.Kernel.Facts) (hKernelIdeal : Cert.KernelIdeal.Facts) (hEig : Cert.Eig.Facts) (hEigIdeal : Cert.EigIdeal.Facts) (hJacobiIdeal : Cert.JacobiIdeal.Facts) (hPre_unit_weights : Cert.Pre_unit_weights.Facts),
    quiescent_Mixer (hMixer := hMixer)
    ∧ quiescent_MixerIdeal (hMixerIdeal := hMixerIdeal)
    ∧ quiescent_ReferenceIdeal (hReferenceIdeal := hReferenceIdeal)
    ∧ quiescent_Kernel (hKernel := hKernel)
    ∧ quiescent_KernelIdeal (hKernelIdeal := hKernelIdeal)
    ∧ quiescent_Eig (hEig := hEig)
    ∧ quiescent_EigIdeal (hEigIdeal := hEigIdeal)
    ∧ quiescent_EigIdeal_pre_unit_weights (hEigIdeal := hEigIdeal) (hPre_unit_weights := hPre_unit_weights)
    ∧ quiescent_JacobiIdeal (hJacobiIdeal := hJacobiIdeal)
    ∧ quiescent_JacobiIdeal_pre_unit_weights (hJacobiIdeal := hJacobiIdeal) (hPre_unit_weights := hPre_unit_weights)
    ∧ preserves_Mixer_MixerIdeal
    ∧ algebraic_MixerIdeal_ReferenceIdeal (hMixerIdeal := hMixerIdeal) (hReferenceIdeal := hReferenceIdeal)
    ∧ preserves_Kernel_KernelIdeal
    ∧ preserves_Eig_EigIdeal
    ∧ algebraic_EigIdeal_JacobiIdeal_pre_unit_weights (hEigIdeal := hEigIdeal) (hJacobiIdeal := hJacobiIdeal) (hPre_unit_weights := hPre_unit_weights)
-- ==== Pre_unit_weights.lean ====
abbrev S32x256x19x19 : Shape := ⟨4, ![32, 256, 19, 19]⟩
abbrev S_ : Shape := ⟨0, ![]⟩

class Facts : Prop where
  bcast_S_S32x256x19x19 : S_.BroadcastsInDim S32x256x19x19 (![] : Fin 0 → Fin S32x256x19x19.rank)

variable [Facts]

def fn {F : FTy → Type} [FloatOps F] (main_arg0 : FVec F S32x256x19x19 .f32) : IVec S32x256x19x19 1 :=
  let main_cst : FVec F S_ .f32 := constant S_ .f32 0x00000000#32
  let main_v0 : FVec F S32x256x19x19 .f32 := broadcastInDim S32x256x19x19 ![] bcast_S_S32x256x19x19 main_cst
  let main_v1 : IVec S32x256x19x19 1 := cmpf .oge main_arg0 main_v0
  let main_cst_0 : FVec F S_ .f32 := constant S_ .f32 0x3F800000#32
  let main_v2 : FVec F S32x256x19x19 .f32 := broadcastInDim S32x256x19x19 ![] bcast_S_S32x256x19x19 main_cst_0
  let main_v3 : IVec S32x256x19x19 1 := cmpf .ole main_arg0 main_v2
  let main_v4 : IVec S32x256x19x19 1 := andi main_v1 main_v3
  main_v4
-- ==== Mixer.lean ====
abbrev S32x19x256x64 : Shape := ⟨4, ![32, 19, 256, 64]⟩
abbrev S32x256x19x19 : Shape := ⟨4, ![32, 256, 19, 19]⟩
abbrev S8192x19x16 : Shape := ⟨3, ![8192, 19, 16]⟩
abbrev S1x1 : Shape := ⟨2, ![1, 1]⟩
abbrev S1 : Shape := ⟨1, ![1]⟩
abbrev S64x80 : Shape := ⟨2, ![64, 80]⟩
abbrev S64 : Shape := ⟨1, ![64]⟩
abbrev S64x64 : Shape := ⟨2, ![64, 64]⟩
abbrev S32x256x19x64 : Shape := ⟨4, ![32, 256, 19, 64]⟩
abbrev S8192x19x64 : Shape := ⟨3, ![8192, 19, 64]⟩
abbrev S8192x19x19 : Shape := ⟨3, ![8192, 19, 19]⟩
abbrev S1x64 : Shape := ⟨2, ![1, 64]⟩
abbrev S128x19x64 : Shape := ⟨3, ![128, 19, 64]⟩
abbrev S128x19x19 : Shape := ⟨3, ![128, 19, 19]⟩
abbrev S128x19x16 : Shape := ⟨3, ![128, 19, 16]⟩
abbrev S19x19 : Shape := ⟨2, ![19, 19]⟩
abbrev S1x19x19 : Shape := ⟨3, ![1, 19, 19]⟩
abbrev S128x19 : Shape := ⟨2, ![128, 19]⟩
abbrev S128x19x1 : Shape := ⟨3, ![128, 19, 1]⟩
abbrev S128x1x19 : Shape := ⟨3, ![128, 1, 19]⟩
abbrev S128x19x80 : Shape := ⟨3, ![128, 19, 80]⟩
abbrev S1x1x64 : Shape := ⟨3, ![1, 1, 64]⟩

abbrev nBuf : Space → Nat
  | .hbm => 24
  | .vmem => 18
  | .smem => 0
  | _ => 0

abbrev bufTy : (tb : Table) → Fin (tcTables nBuf tb) → BufTy
  | .hbm, ⟨0, _⟩ => ⟨S32x19x256x64, .f32⟩
  | .hbm, ⟨1, _⟩ => ⟨S32x256x19x19, .f32⟩
  | .hbm, ⟨2, _⟩ => ⟨S8192x19x16, .f32⟩
  | .hbm, ⟨3, _⟩ => ⟨S1x1, .f32⟩
  | .hbm, ⟨4, _⟩ => ⟨S1, .f32⟩
  | .hbm, ⟨5, _⟩ => ⟨S64x80, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S32x256x19x64, .f32⟩
  | .hbm, ⟨14, _⟩ => ⟨S8192x19x64, .f32⟩
  | .hbm, ⟨15, _⟩ => ⟨S8192x19x19, .f32⟩
  | .hbm, ⟨16, _⟩ => ⟨S1x1, .f32⟩
  | .hbm, ⟨17, _⟩ => ⟨S1x64, .f32⟩
  | .hbm, ⟨18, _⟩ => ⟨S1x64, .f32⟩
  | .hbm, ⟨19, _⟩ => ⟨S1x64, .f32⟩
  | .hbm, ⟨20, _⟩ => ⟨S1x64, .f32⟩
  | .hbm, ⟨21, _⟩ => ⟨S1x64, .f32⟩
  | .hbm, ⟨22, _⟩ => ⟨S1x64, .f32⟩
  | .hbm, ⟨23, _⟩ => ⟨S8192x19x64, .f32⟩
  | .local _ .vmem, ⟨0, _⟩ => ⟨S128x19x64, .f32⟩
  | .local _ .vmem, ⟨1, _⟩ => ⟨S128x19x64, .f32⟩
  | .local _ .vmem, ⟨2, _⟩ => ⟨S128x19x19, .f32⟩
  | .local _ .vmem, ⟨3, _⟩ => ⟨S128x19x19, .f32⟩
  | .local _ .vmem, ⟨4, _⟩ => ⟨S128x19x16, .f32⟩
  | .local _ .vmem, ⟨5, _⟩ => ⟨S128x19x16, .f32⟩
  | .local _ .vmem, ⟨6, _⟩ => ⟨S1x1, .f32⟩
  | .local _ .vmem, ⟨7, _⟩ => ⟨S1x1, .f32⟩
  | .local _ .vmem, ⟨8, _⟩ => ⟨S64x80, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S128x19x64, .f32⟩
  | .local _ .vmem, ⟨17, _⟩ => ⟨S128x19x64, .f32⟩
  | _, _ => ⟨S32x19x256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x19x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x19x19 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x19x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x80 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S128x19x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S32x19x256x64 : Shape := ⟨4, ![32, 19, 256, 64]⟩
abbrev S32x256x19x19 : Shape := ⟨4, ![32, 256, 19, 19]⟩
abbrev S8192x19x16 : Shape := ⟨3, ![8192, 19, 16]⟩
abbrev S1x1 : Shape := ⟨2, ![1, 1]⟩
abbrev S1 : Shape := ⟨1, ![1]⟩
abbrev S64x80 : Shape := ⟨2, ![64, 80]⟩
abbrev S64 : Shape := ⟨1, ![64]⟩
abbrev S64x64 : Shape := ⟨2, ![64, 64]⟩
abbrev S32x256x19x64 : Shape := ⟨4, ![32, 256, 19, 64]⟩
abbrev S8192x19x64 : Shape := ⟨3, ![8192, 19, 64]⟩
abbrev S8192x19x19 : Shape := ⟨3, ![8192, 19, 19]⟩
abbrev S_ : Shape := ⟨0, ![]⟩
abbrev S19x19 : Shape := ⟨2, ![19, 19]⟩
abbrev S19 : Shape := ⟨1, ![19]⟩
abbrev S19x1 : Shape := ⟨2, ![19, 1]⟩
abbrev S19x2 : Shape := ⟨2, ![19, 2]⟩
abbrev S8192x19 : Shape := ⟨2, ![8192, 19]⟩
abbrev S8192x19x1 : Shape := ⟨3, ![8192, 19, 1]⟩
abbrev S1x19x19 : Shape := ⟨3, ![1, 19, 19]⟩
abbrev S8192x1x19 : Shape := ⟨3, ![8192, 1, 19]⟩
abbrev S8192x19x80 : Shape := ⟨3, ![8192, 19, 80]⟩
abbrev S80x64 : Shape := ⟨2, ![80, 64]⟩
abbrev S1x1x64 : Shape := ⟨3, ![1, 1, 64]⟩

abbrev nBuf : Space → Nat
  | .hbm => 223
  | .vmem => 0
  | .smem => 0
  | _ => 0

abbrev hbmTy0_0 (i : Nat) : BufTy := match i % 128 with
  | 0 => ⟨S32x19x256x64, .f32⟩
  | 1 => ⟨S32x256x19x19, .f32⟩
  | 2 => ⟨S8192x19x16, .f32⟩
  | 3 => ⟨S1x1, .f32⟩
  | 4 => ⟨S1, .f32⟩
  | 5 => ⟨S64x80, .f32⟩
  | 6 => ⟨S64, .f32⟩
  | 7 => ⟨S64x64, .f32⟩
  | 8 => ⟨S64, .f32⟩
  | 9 => ⟨S64, .f32⟩
  | 10 => ⟨S64, .f32⟩
  | 11 => ⟨S64, .f32⟩
  | 12 => ⟨S64, .f32⟩
  | 13 => ⟨S32x256x19x64, .f32⟩
  | 14 => ⟨S8192x19x64, .f32⟩
  | 15 => ⟨S8192x19x19, .f32⟩
  | 16 => ⟨S_, .f32⟩
  | 17 => ⟨S8192x19x19, .f32⟩
  | 18 => ⟨S8192x19x19, .i1⟩
  | 19 => ⟨S8192x19x19, .f32⟩
  | 20 => ⟨S_, .f32⟩
  | 21 => ⟨S8192x19x19, .f32⟩
  | 22 => ⟨S8192x19x19, .f32⟩
  | 23 => ⟨S_, .f32⟩
  | 24 => ⟨S8192x19x19, .f32⟩
  | 25 => ⟨S8192x19x19, .f32⟩
  | 26 => ⟨S_, .f32⟩
  | 27 => ⟨S8192x19x19, .f32⟩
  | 28 => ⟨S8192x19x19, .f32⟩
  | 29 => ⟨S8192x19x19, .f32⟩
  | 30 => ⟨S8192x19x19, .f32⟩
  | 31 => ⟨S8192x19x19, .i1⟩
  | 32 => ⟨S8192x19x19, .f32⟩
  | 33 => ⟨S8192x19x19, .f32⟩
  | 34 => ⟨S8192x19x19, .f32⟩
  | 35 => ⟨S8192x19x19, .f32⟩
  | 36 => ⟨S8192x19x19, .f32⟩
  | 37 => ⟨S8192x19x19, .f32⟩
  | 38 => ⟨S8192x19x19, .f32⟩
  | 39 => ⟨S8192x19x19, .f32⟩
  | 40 => ⟨S8192x19x19, .f32⟩
  | 41 => ⟨S19x19, .i32⟩
  | 42 => ⟨S19x19, .i32⟩
  | 43 => ⟨S_, .i32⟩
  | 44 => ⟨S19x19, .i32⟩
  | 45 => ⟨S19x19, .i32⟩
  | 46 => ⟨S19x19, .i1⟩
  | 47 => ⟨S19x19, .f32⟩
  | 48 => ⟨S19, .i32⟩
  | 49 => ⟨S19, .i32⟩
  | 50 => ⟨S_, .i32⟩
  | 51 => ⟨S19, .i32⟩
  | 52 => ⟨S19, .i1⟩
  | 53 => ⟨S_, .i32⟩
  | 54 => ⟨S19, .i32⟩
  | 55 => ⟨S19, .i32⟩
  | 56 => ⟨S19, .i32⟩
  | 57 => ⟨S_, .i32⟩
  | 58 => ⟨S19, .i32⟩
  | 59 => ⟨S19, .i1⟩
  | 60 => ⟨S_, .i32⟩
  | 61 => ⟨S19, .i32⟩
  | 62 => ⟨S19, .i32⟩
  | 63 => ⟨S19, .i32⟩
  | 64 => ⟨S19x1, .i32⟩
  | 65 => ⟨S19x1, .i32⟩
  | 66 => ⟨S19x2, .i32⟩
  | 67 => ⟨S8192x19, .f32⟩
  | 68 => ⟨S_, .f32⟩
  | 69 => ⟨S8192x19, .f32⟩
  | 70 => ⟨S8192x19, .f32⟩
  | 71 => ⟨S8192x19x1, .f32⟩
  | 72 => ⟨S1x19x19, .f32⟩
  | 73 => ⟨S8192x19x19, .f32⟩
  | 74 => ⟨S8192x19x19, .f32⟩
  | 75 => ⟨S8192x19x19, .f32⟩
  | 76 => ⟨S8192x19x19, .f32⟩
  | 77 => ⟨S_, .f32⟩
  | 78 => ⟨S8192x19, .f32⟩
  | 79 => ⟨S_, .f32⟩
  | 80 => ⟨S8192x19, .f32⟩
  | 81 => ⟨S8192x19, .i1⟩
  | 82 => ⟨S8192x19, .f32⟩
  | 83 => ⟨S_, .f32⟩
  | 84 => ⟨S8192x19, .f32⟩
  | 85 => ⟨S8192x19, .f32⟩
  | 86 => ⟨S_, .f32⟩
  | 87 => ⟨S_, .f32⟩
  | 88 => ⟨S8192x19, .f32⟩
  | 89 => ⟨S8192x19, .f32⟩
  | 90 => ⟨S8192x19x1, .f32⟩
  | 91 => ⟨S8192x19x19, .f32⟩
  | 92 => ⟨S8192x19x19, .f32⟩
  | 93 => ⟨S8192x1x19, .f32⟩
  | 94 => ⟨S8192x19x19, .f32⟩
  | 95 => ⟨S8192x19x19, .f32⟩
  | 96 => ⟨S8192x19x19, .f32⟩
  | 97 => ⟨S8192x19x80, .f32⟩
  | 98 => ⟨S_, .f32⟩
  | 99 => ⟨S8192x19x80, .f32⟩
  | 100 => ⟨S8192x19x80, .f32⟩
  | 101 => ⟨S8192x19x80, .f32⟩
  | 102 => ⟨S_, .f32⟩
  | 103 => ⟨S8192x19x80, .f32⟩
  | 104 => ⟨S8192x19x80, .f32⟩
  | 105 => ⟨S8192x19x80, .f32⟩
  | 106 => ⟨S8192x19x80, .f32⟩
  | 107 => ⟨S_, .f32⟩
  | 108 => ⟨S8192x19x80, .f32⟩
  | 109 => ⟨S8192x19x80, .f32⟩
  | 110 => ⟨S8192x19x80, .f32⟩
  | 111 => ⟨S80x64, .f32⟩
  | 112 => ⟨S8192x19x64, .f32⟩
  | 113 => ⟨S1x1x64, .f32⟩
  | 114 => ⟨S8192x19x64, .f32⟩
  | 115 => ⟨S8192x19x64, .f32⟩
  | 116 => ⟨S_, .f32⟩
  | 117 => ⟨S8192x19, .f32⟩
  | 118 => ⟨S8192x19x1, .f32⟩
  | 119 => ⟨S_, .f32⟩
  | 120 => ⟨S8192x19x1, .f32⟩
  | 121 => ⟨S8192x19x1, .f32⟩
  | 122 => ⟨S_, .i32⟩
  | 123 => ⟨S_, .f32⟩
  | 124 => ⟨S8192x19, .f32⟩
  | 125 => ⟨S8192x19x1, .f32⟩
  | 126 => ⟨S_, .f32⟩
  | 127 => ⟨S8192x19x1, .f32⟩
  | _ => ⟨S32x19x256x64, .f32⟩

abbrev hbmTy0_1 (i : Nat) : BufTy := match i % 128 with
  | 0 => ⟨S8192x19x1, .f32⟩
  | 1 => ⟨S8192x19x64, .f32⟩
  | 2 => ⟨S8192x19x64, .f32⟩
  | 3 => ⟨S8192x19x64, .f32⟩
  | 4 => ⟨S_, .f32⟩
  | 5 => ⟨S_, .f32⟩
  | 6 => ⟨S_, .f32⟩
  | 7 => ⟨S_, .f32⟩
  | 8 => ⟨S8192x19, .f32⟩
  | 9 => ⟨S8192x19x1, .f32⟩
  | 10 => ⟨S8192x19x1, .f32⟩
  | 11 => ⟨S8192x19x1, .f32⟩
  | 12 => ⟨S_, .f32⟩
  | 13 => ⟨S_, .i1⟩
  | 14 => ⟨S_, .f32⟩
  | 15 => ⟨S_, .f32⟩
  | 16 => ⟨S8192x19x1, .f32⟩
  | 17 => ⟨S8192x19x1, .f32⟩
  | 18 => ⟨S8192x19x64, .f32⟩
  | 19 => ⟨S8192x19x64, .f32⟩
  | 20 => ⟨S_, .f32⟩
  | 21 => ⟨S8192x19x1, .f32⟩
  | 22 => ⟨S8192x19x1, .f32⟩
  | 23 => ⟨S8192x19x1, .f32⟩
  | 24 => ⟨S8192x19x64, .f32⟩
  | 25 => ⟨S8192x19x64, .f32⟩
  | 26 => ⟨S1x1x64, .f32⟩
  | 27 => ⟨S8192x19x64, .f32⟩
  | 28 => ⟨S8192x19x64, .f32⟩
  | 29 => ⟨S1x1x64, .f32⟩
  | 30 => ⟨S8192x19x64, .f32⟩
  | 31 => ⟨S8192x19x64, .f32⟩
  | 32 => ⟨S_, .f32⟩
  | 33 => ⟨S8192x19x64, .f32⟩
  | 34 => ⟨S8192x19x64, .f32⟩
  | 35 => ⟨S8192x19x64, .f32⟩
  | 36 => ⟨S_, .f32⟩
  | 37 => ⟨S8192x19x64, .f32⟩
  | 38 => ⟨S8192x19x64, .f32⟩
  | 39 => ⟨S8192x19x64, .f32⟩
  | 40 => ⟨S8192x19x64, .f32⟩
  | 41 => ⟨S_, .f32⟩
  | 42 => ⟨S8192x19x64, .f32⟩
  | 43 => ⟨S8192x19x64, .f32⟩
  | 44 => ⟨S8192x19x64, .f32⟩
  | 45 => ⟨S64x64, .f32⟩
  | 46 => ⟨S8192x19x64, .f32⟩
  | 47 => ⟨S1x1x64, .f32⟩
  | 48 => ⟨S8192x19x64, .f32⟩
  | 49 => ⟨S8192x19x64, .f32⟩
  | 50 => ⟨S_, .f32⟩
  | 51 => ⟨S8192x19, .f32⟩
  | 52 => ⟨S8192x19x1, .f32⟩
  | 53 => ⟨S_, .f32⟩
  | 54 => ⟨S8192x19x1, .f32⟩
  | 55 => ⟨S8192x19x1, .f32⟩
  | 56 => ⟨S_, .i32⟩
  | 57 => ⟨S_, .f32⟩
  | 58 => ⟨S8192x19, .f32⟩
  | 59 => ⟨S8192x19x1, .f32⟩
  | 60 => ⟨S_, .f32⟩
  | 61 => ⟨S8192x19x1, .f32⟩
  | 62 => ⟨S8192x19x1, .f32⟩
  | 63 => ⟨S8192x19x64, .f32⟩
  | 64 => ⟨S8192x19x64, .f32⟩
  | 65 => ⟨S8192x19x64, .f32⟩
  | 66 => ⟨S_, .f32⟩
  | 67 => ⟨S_, .f32⟩
  | 68 => ⟨S_, .f32⟩
  | 69 => ⟨S_, .f32⟩
  | 70 => ⟨S8192x19, .f32⟩
  | 71 => ⟨S8192x19x1, .f32⟩
  | 72 => ⟨S8192x19x1, .f32⟩
  | 73 => ⟨S8192x19x1, .f32⟩
  | 74 => ⟨S_, .f32⟩
  | 75 => ⟨S_, .i1⟩
  | 76 => ⟨S_, .f32⟩
  | 77 => ⟨S_, .f32⟩
  | 78 => ⟨S8192x19x1, .f32⟩
  | 79 => ⟨S8192x19x1, .f32⟩
  | 80 => ⟨S8192x19x64, .f32⟩
  | 81 => ⟨S8192x19x64, .f32⟩
  | 82 => ⟨S_, .f32⟩
  | 83 => ⟨S8192x19x1, .f32⟩
  | 84 => ⟨S8192x19x1, .f32⟩
  | 85 => ⟨S8192x19x1, .f32⟩
  | 86 => ⟨S8192x19x64, .f32⟩
  | 87 => ⟨S8192x19x64, .f32⟩
  | 88 => ⟨S1x1x64, .f32⟩
  | 89 => ⟨S8192x19x64, .f32⟩
  | 90 => ⟨S8192x19x64, .f32⟩
  | 91 => ⟨S1x1x64, .f32⟩
  | 92 => ⟨S8192x19x64, .f32⟩
  | 93 => ⟨S8192x19x64, .f32⟩
  | 94 => ⟨S8192x19x64, .f32⟩
  | _ => ⟨S32x19x256x64, .f32⟩

abbrev hbmTy (i : Nat) : BufTy := match i / 128 with
  | 0 => hbmTy0_0 i
  | 1 => hbmTy0_1 i
  | _ => ⟨S32x19x256x64, .f32⟩

abbrev bufTy : (tb : Table) → Fin (tcTables nBuf tb) → BufTy
  | .hbm, ⟨i, _⟩ => hbmTy i
  | _, _ => ⟨S32x19x256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_c : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_call1_v0 : Ref sig .tc := ⟨.hbm, 48, rfl⟩
abbrev main_call1_v1 : Ref sig .tc := ⟨.hbm, 49, rfl⟩
abbrev main_call1_c : Ref sig .tc := ⟨.hbm, 50, rfl⟩
abbrev main_call1_v2 : Ref sig .tc := ⟨.hbm, 51, rfl⟩
abbrev main_call1_v3 : Ref sig .tc := ⟨.hbm, 52, rfl⟩
abbrev main_call1_c_0 : Ref sig .tc := ⟨.hbm, 53, rfl⟩
abbrev main_call1_v4 : Ref sig .tc := ⟨.hbm, 54, rfl⟩
abbrev main_call1_v5 : Ref sig .tc := ⟨.hbm, 55, rfl⟩
abbrev main_call1_v6 : Ref sig .tc := ⟨.hbm, 56, rfl⟩
abbrev main_call1_c_1 : Ref sig .tc := ⟨.hbm, 57, rfl⟩
abbrev main_call1_v7 : Ref sig .tc := ⟨.hbm, 58, rfl⟩
abbrev main_call1_v8 : Ref sig .tc := ⟨.hbm, 59, rfl⟩
abbrev main_call1_c_2 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_v20 : Ref sig .tc := ⟨.hbm, 67, rfl⟩
abbrev main_cst_0 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_cst_1 : Ref sig .tc := ⟨.hbm, 77, rfl⟩
abbrev main_v29 : Ref sig .tc := ⟨.hbm, 78, rfl⟩
abbrev main_cst_2 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_cst_3 : Ref sig .tc := ⟨.hbm, 83, rfl⟩
abbrev main_v33 : Ref sig .tc := ⟨.hbm, 84, rfl⟩
abbrev main_v34 : Ref sig .tc := ⟨.hbm, 85, rfl⟩
abbrev main_cst_4 : Ref sig .tc := ⟨.hbm, 86, rfl⟩
abbrev main_call2_v0 : Ref sig .tc := ⟨.hbm, 87, rfl⟩
abbrev main_call2_v1 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_cst_5 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_cst_6 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_cst_7 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_cst_8 : Ref sig .tc := ⟨.hbm, 116, rfl⟩
abbrev main_v59 : Ref sig .tc := ⟨.hbm, 117, rfl⟩
abbrev main_v60 : Ref sig .tc := ⟨.hbm, 118, rfl⟩
abbrev main_cst_9 : Ref sig .tc := ⟨.hbm, 119, rfl⟩
abbrev main_v61 : Ref sig .tc := ⟨.hbm, 120, rfl⟩
abbrev main_v62 : Ref sig .tc := ⟨.hbm, 121, rfl⟩
abbrev main_c_10 : Ref sig .tc := ⟨.hbm, 122, rfl⟩
abbrev main_call3_cst : Ref sig .tc := ⟨.hbm, 123, rfl⟩
abbrev main_call3_v0 : Ref sig .tc := ⟨.hbm, 124, rfl⟩
abbrev main_call3_v1 : Ref sig .tc := ⟨.hbm, 125, rfl⟩
abbrev main_call3_cst_0 : Ref sig .tc := ⟨.hbm, 126, rfl⟩
abbrev main_call3_v2 : Ref sig .tc := ⟨.hbm, 127, rfl⟩
abbrev main_call3_v3 : Ref sig .tc := ⟨.hbm, 128, rfl⟩
abbrev main_call3_v4 : Ref sig .tc := ⟨.hbm, 129, rfl⟩
abbrev main_call3_v5 : Ref sig .tc := ⟨.hbm, 130, rfl⟩
abbrev main_call3_v6 : Ref sig .tc := ⟨.hbm, 131, rfl⟩
abbrev main_call3_v7 : Ref sig .tc := ⟨.hbm, 132, rfl⟩
abbrev main_call3_cst_1 : Ref sig .tc := ⟨.hbm, 133, rfl⟩
abbrev main_call3_v8 : Ref sig .tc := ⟨.hbm, 134, rfl⟩
abbrev main_call3_cst_2 : Ref sig .tc := ⟨.hbm, 135, rfl⟩
abbrev main_call3_v9 : Ref sig .tc := ⟨.hbm, 136, rfl⟩
abbrev main_call3_v10 : Ref sig .tc := ⟨.hbm, 137, rfl⟩
abbrev main_call3_v11 : Ref sig .tc := ⟨.hbm, 138, rfl⟩
abbrev main_call3_v12 : Ref sig .tc := ⟨.hbm, 139, rfl⟩
abbrev main_call3_cst_3 : Ref sig .tc := ⟨.hbm, 140, rfl⟩
abbrev main_call3_v13 : Ref sig .tc := ⟨.hbm, 141, rfl⟩
abbrev main_call3_cst_4 : Ref sig .tc := ⟨.hbm, 142, rfl⟩
abbrev main_call3_call0_v0 : Ref sig .tc := ⟨.hbm, 143, rfl⟩
abbrev main_call3_call0_v1 : Ref sig .tc := ⟨.hbm, 144, rfl⟩
abbrev main_v63 : Ref sig .tc := ⟨.hbm, 145, rfl⟩
abbrev main_v64 : Ref sig .tc := ⟨.hbm, 146, rfl⟩
abbrev main_v65 : Ref sig .tc := ⟨.hbm, 147, rfl⟩
abbrev main_cst_11 : Ref sig .tc := ⟨.hbm, 148, rfl⟩
abbrev main_v66 : Ref sig .tc := ⟨.hbm, 149, rfl⟩
abbrev main_v67 : Ref sig .tc := ⟨.hbm, 150, rfl⟩
abbrev main_v68 : Ref sig .tc := ⟨.hbm, 151, rfl⟩
abbrev main_v69 : Ref sig .tc := ⟨.hbm, 152, rfl⟩
abbrev main_v70 : Ref sig .tc := ⟨.hbm, 153, rfl⟩
abbrev main_v71 : Ref sig .tc := ⟨.hbm, 154, rfl⟩
abbrev main_v72 : Ref sig .tc := ⟨.hbm, 155, rfl⟩
abbrev main_v73 : Ref sig .tc := ⟨.hbm, 156, rfl⟩
abbrev main_v74 : Ref sig .tc := ⟨.hbm, 157, rfl⟩
abbrev main_v75 : Ref sig .tc := ⟨.hbm, 158, rfl⟩
abbrev main_v76 : Ref sig .tc := ⟨.hbm, 159, rfl⟩
abbrev main_cst_12 : Ref sig .tc := ⟨.hbm, 160, rfl⟩
abbrev main_v77 : Ref sig .tc := ⟨.hbm, 161, rfl⟩
abbrev main_v78 : Ref sig .tc := ⟨.hbm, 162, rfl⟩
abbrev main_v79 : Ref sig .tc := ⟨.hbm, 163, rfl⟩
abbrev main_cst_13 : Ref sig .tc := ⟨.hbm, 164, rfl⟩
abbrev main_v80 : Ref sig .tc := ⟨.hbm, 165, rfl⟩
abbrev main_v81 : Ref sig .tc := ⟨.hbm, 166, rfl⟩
abbrev main_v82 : Ref sig .tc := ⟨.hbm, 167, rfl⟩
abbrev main_v83 : Ref sig .tc := ⟨.hbm, 168, rfl⟩
abbrev main_cst_14 : Ref sig .tc := ⟨.hbm, 169, rfl⟩
abbrev main_v84 : Ref sig .tc := ⟨.hbm, 170, rfl⟩
abbrev main_v85 : Ref sig .tc := ⟨.hbm, 171, rfl⟩
abbrev main_v86 : Ref sig .tc := ⟨.hbm, 172, rfl⟩
abbrev main_v87 : Ref sig .tc := ⟨.hbm, 173, rfl⟩
abbrev main_v88 : Ref sig .tc := ⟨.hbm, 174, rfl⟩
abbrev main_v89 : Ref sig .tc := ⟨.hbm, 175, rfl⟩
abbrev main_v90 : Ref sig .tc := ⟨.hbm, 176, rfl⟩
abbrev main_v91 : Ref sig .tc := ⟨.hbm, 177, rfl⟩
abbrev main_cst_15 : Ref sig .tc := ⟨.hbm, 178, rfl⟩
abbrev main_v92 : Ref sig .tc := ⟨.hbm, 179, rfl⟩
abbrev main_v93 : Ref sig .tc := ⟨.hbm, 180, rfl⟩
abbrev main_cst_16 : Ref sig .tc := ⟨.hbm, 181, rfl⟩
abbrev main_v94 : Ref sig .tc := ⟨.hbm, 182, rfl⟩
abbrev main_v95 : Ref sig .tc := ⟨.hbm, 183, rfl⟩
abbrev main_c_17 : Ref sig .tc := ⟨.hbm, 184, rfl⟩
abbrev main_call4_cst : Ref sig .tc := ⟨.hbm, 185, rfl⟩
abbrev main_call4_v0 : Ref sig .tc := ⟨.hbm, 186, rfl⟩
abbrev main_call4_v1 : Ref sig .tc := ⟨.hbm, 187, rfl⟩
abbrev main_call4_cst_0 : Ref sig .tc := ⟨.hbm, 188, rfl⟩
abbrev main_call4_v2 : Ref sig .tc := ⟨.hbm, 189, rfl⟩
abbrev main_call4_v3 : Ref sig .tc := ⟨.hbm, 190, rfl⟩
abbrev main_call4_v4 : Ref sig .tc := ⟨.hbm, 191, rfl⟩
abbrev main_call4_v5 : Ref sig .tc := ⟨.hbm, 192, rfl⟩
abbrev main_call4_v6 : Ref sig .tc := ⟨.hbm, 193, rfl⟩
abbrev main_call4_v7 : Ref sig .tc := ⟨.hbm, 194, rfl⟩
abbrev main_call4_cst_1 : Ref sig .tc := ⟨.hbm, 195, rfl⟩
abbrev main_call4_v8 : Ref sig .tc := ⟨.hbm, 196, rfl⟩
abbrev main_call4_cst_2 : Ref sig .tc := ⟨.hbm, 197, rfl⟩
abbrev main_call4_v9 : Ref sig .tc := ⟨.hbm, 198, rfl⟩
abbrev main_call4_v10 : Ref sig .tc := ⟨.hbm, 199, rfl⟩
abbrev main_call4_v11 : Ref sig .tc := ⟨.hbm, 200, rfl⟩
abbrev main_call4_v12 : Ref sig .tc := ⟨.hbm, 201, rfl⟩
abbrev main_call4_cst_3 : Ref sig .tc := ⟨.hbm, 202, rfl⟩
abbrev main_call4_v13 : Ref sig .tc := ⟨.hbm, 203, rfl⟩
abbrev main_call4_cst_4 : Ref sig .tc := ⟨.hbm, 204, rfl⟩
abbrev main_call4_call0_v0 : Ref sig .tc := ⟨.hbm, 205, rfl⟩
abbrev main_call4_call0_v1 : Ref sig .tc := ⟨.hbm, 206, rfl⟩
abbrev main_v96 : Ref sig .tc := ⟨.hbm, 207, rfl⟩
abbrev main_v97 : Ref sig .tc := ⟨.hbm, 208, rfl⟩
abbrev main_v98 : Ref sig .tc := ⟨.hbm, 209, rfl⟩
abbrev main_cst_18 : Ref sig .tc := ⟨.hbm, 210, rfl⟩
abbrev main_v99 : Ref sig .tc := ⟨.hbm, 211, rfl⟩
abbrev main_v100 : Ref sig .tc := ⟨.hbm, 212, rfl⟩
abbrev main_v101 : Ref sig .tc := ⟨.hbm, 213, rfl⟩
abbrev main_v102 : Ref sig .tc := ⟨.hbm, 214, rfl⟩
abbrev main_v103 : Ref sig .tc := ⟨.hbm, 215, rfl⟩
abbrev main_v104 : Ref sig .tc := ⟨.hbm, 216, rfl⟩
abbrev main_v105 : Ref sig .tc := ⟨.hbm, 217, rfl⟩
abbrev main_v106 : Ref sig .tc := ⟨.hbm, 218, rfl⟩
abbrev main_v107 : Ref sig .tc := ⟨.hbm, 219, rfl⟩
abbrev main_v108 : Ref sig .tc := ⟨.hbm, 220, rfl⟩
abbrev main_v109 : Ref sig .tc := ⟨.hbm, 221, rfl⟩
abbrev main_v110 : Ref sig .tc := ⟨.hbm, 222, rfl⟩

abbrev nD : Nat := 1
abbrev τ : Topo := Topo.v7x

variable {F : FTy → Type} [FloatOps F]
-- ==== Kernel.lean ====
abbrev S32x19x256x64 : Shape := ⟨4, ![32, 19, 256, 64]⟩
abbrev S32x256x19x19 : Shape := ⟨4, ![32, 256, 19, 19]⟩
abbrev S1x1 : Shape := ⟨2, ![1, 1]⟩
abbrev S1 : Shape := ⟨1, ![1]⟩
abbrev S64x80 : Shape := ⟨2, ![64, 80]⟩
abbrev S64 : Shape := ⟨1, ![64]⟩
abbrev S64x64 : Shape := ⟨2, ![64, 64]⟩
abbrev S19x20x20 : Shape := ⟨3, ![19, 20, 20]⟩
abbrev S32x256x19x64 : Shape := ⟨4, ![32, 256, 19, 64]⟩
abbrev S8192x19x64 : Shape := ⟨3, ![8192, 19, 64]⟩
abbrev S8192x19x19 : Shape := ⟨3, ![8192, 19, 19]⟩
abbrev S19x19x8192 : Shape := ⟨3, ![19, 19, 8192]⟩
abbrev S19x16x8192 : Shape := ⟨3, ![19, 16, 8192]⟩
abbrev S19x19x512 : Shape := ⟨3, ![19, 19, 512]⟩
abbrev S19x16x512 : Shape := ⟨3, ![19, 16, 512]⟩
abbrev S19x512 : Shape := ⟨2, ![19, 512]⟩
abbrev S19x19 : Shape := ⟨2, ![19, 19]⟩
abbrev S19x1x512 : Shape := ⟨3, ![19, 1, 512]⟩
abbrev S1x19x512 : Shape := ⟨3, ![1, 19, 512]⟩
abbrev S19x19x1 : Shape := ⟨3, ![19, 19, 1]⟩
abbrev S19x20x512 : Shape := ⟨3, ![19, 20, 512]⟩
abbrev S1x1x512 : Shape := ⟨3, ![1, 1, 512]⟩
abbrev S1x20x512 : Shape := ⟨3, ![1, 20, 512]⟩
abbrev S20x20x512 : Shape := ⟨3, ![20, 20, 512]⟩
abbrev S20x20 : Shape := ⟨2, ![20, 20]⟩
abbrev S20x20x1 : Shape := ⟨3, ![20, 20, 1]⟩
abbrev S20x512 : Shape := ⟨2, ![20, 512]⟩
abbrev S1x20x20 : Shape := ⟨3, ![1, 20, 20]⟩
abbrev S20x1 : Shape := ⟨2, ![20, 1]⟩
abbrev S1x512 : Shape := ⟨2, ![1, 512]⟩
abbrev S20x1x512 : Shape := ⟨3, ![20, 1, 512]⟩
abbrev S512 : Shape := ⟨1, ![512]⟩
abbrev S8192x19x16 : Shape := ⟨3, ![8192, 19, 16]⟩
abbrev S1x64 : Shape := ⟨2, ![1, 64]⟩
abbrev S128x19x64 : Shape := ⟨3, ![128, 19, 64]⟩
abbrev S128x19x19 : Shape := ⟨3, ![128, 19, 19]⟩
abbrev S128x19x16 : Shape := ⟨3, ![128, 19, 16]⟩
abbrev S1x19x19 : Shape := ⟨3, ![1, 19, 19]⟩
abbrev S128x19 : Shape := ⟨2, ![128, 19]⟩
abbrev S128x19x1 : Shape := ⟨3, ![128, 19, 1]⟩
abbrev S128x1x19 : Shape := ⟨3, ![128, 1, 19]⟩
abbrev S128x19x80 : Shape := ⟨3, ![128, 19, 80]⟩
abbrev S1x1x64 : Shape := ⟨3, ![1, 1, 64]⟩

abbrev nBuf : Space → Nat
  | .hbm => 30
  | .vmem => 25
  | .smem => 0
  | _ => 0

abbrev bufTy : (tb : Table) → Fin (tcTables nBuf tb) → BufTy
  | .hbm, ⟨0, _⟩ => ⟨S32x19x256x64, .f32⟩
  | .hbm, ⟨1, _⟩ => ⟨S32x256x19x19, .f32⟩
  | .hbm, ⟨2, _⟩ => ⟨S1x1, .f32⟩
  | .hbm, ⟨3, _⟩ => ⟨S1, .f32⟩
  | .hbm, ⟨4, _⟩ => ⟨S64x80, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S19x20x20, .f32⟩
  | .hbm, ⟨13, _⟩ => ⟨S32x256x19x64, .f32⟩
  | .hbm, ⟨14, _⟩ => ⟨S8192x19x64, .f32⟩
  | .hbm, ⟨15, _⟩ => ⟨S8192x19x19, .f32⟩
  | .hbm, ⟨16, _⟩ => ⟨S19x19x8192, .f32⟩
  | .hbm, ⟨17, _⟩ => ⟨S19x19x8192, .f32⟩
  | .hbm, ⟨18, _⟩ => ⟨S19x16x8192, .f32⟩
  | .hbm, ⟨19, _⟩ => ⟨S8192x19x16, .f32⟩
  | .hbm, ⟨20, _⟩ => ⟨S1x1, .f32⟩
  | .hbm, ⟨21, _⟩ => ⟨S1x64, .f32⟩
  | .hbm, ⟨22, _⟩ => ⟨S1x64, .f32⟩
  | .hbm, ⟨23, _⟩ => ⟨S1x64, .f32⟩
  | .hbm, ⟨24, _⟩ => ⟨S1x64, .f32⟩
  | .hbm, ⟨25, _⟩ => ⟨S1x64, .f32⟩
  | .hbm, ⟨26, _⟩ => ⟨S1x64, .f32⟩
  | .hbm, ⟨27, _⟩ => ⟨S8192x19x64, .f32⟩
  | .hbm, ⟨28, _⟩ => ⟨S32x256x19x64, .f32⟩
  | .hbm, ⟨29, _⟩ => ⟨S32x19x256x64, .f32⟩
  | .local _ .vmem, ⟨0, _⟩ => ⟨S19x20x20, .f32⟩
  | .local _ .vmem, ⟨1, _⟩ => ⟨S19x19x512, .f32⟩
  | .local _ .vmem, ⟨2, _⟩ => ⟨S19x19x512, .f32⟩
  | .local _ .vmem, ⟨3, _⟩ => ⟨S19x19x512, .f32⟩
  | .local _ .vmem, ⟨4, _⟩ => ⟨S19x19x512, .f32⟩
  | .local _ .vmem, ⟨5, _⟩ => ⟨S19x16x512, .f32⟩
  | .local _ .vmem, ⟨6, _⟩ => ⟨S19x16x512, .f32⟩
  | .local _ .vmem, ⟨7, _⟩ => ⟨S128x19x64, .f32⟩
  | .local _ .vmem, ⟨8, _⟩ => ⟨S128x19x64, .f32⟩
  | .local _ .vmem, ⟨9, _⟩ => ⟨S128x19x19, .f32⟩
  | .local _ .vmem, ⟨10, _⟩ => ⟨S128x19x19, .f32⟩
  | .local _ .vmem, ⟨11, _⟩ => ⟨S128x19x16, .f32⟩
  | .local _ .vmem, ⟨12, _⟩ => ⟨S128x19x16, .f32⟩
  | .local _ .vmem, ⟨13, _⟩ => ⟨S1x1, .f32⟩
  | .local _ .vmem, ⟨14, _⟩ => ⟨S1x1, .f32⟩
  | .local _ .vmem, ⟨15, _⟩ => ⟨S64x80, .f32⟩
  | .local _ .vmem, ⟨16, _⟩ => ⟨S1x64, .f32⟩
  | .local _ .vmem, ⟨17, _⟩ => ⟨S64x64, .f32⟩
  | .local _ .vmem, ⟨18, _⟩ => ⟨S1x64, .f32⟩
  | .local _ .vmem, ⟨19, _⟩ => ⟨S1x64, .f32⟩
  | .local _ .vmem, ⟨20, _⟩ => ⟨S1x64, .f32⟩
  | .local _ .vmem, ⟨21, _⟩ => ⟨S1x64, .f32⟩
  | .local _ .vmem, ⟨22, _⟩ => ⟨S1x64, .f32⟩
  | .local _ .vmem, ⟨23, _⟩ => ⟨S128x19x64, .f32⟩
  | .local _ .vmem, ⟨24, _⟩ => ⟨S128x19x64, .f32⟩
  | _, _ => ⟨S32x19x256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg11_0 : Ref sig .tc := ⟨.vmem, 21, rfl⟩
abbrev cc1_stg12_0 : Ref sig .tc := ⟨.vmem, 22, rfl⟩
abbrev cc1_stg13_0 : Ref sig .tc := ⟨.vmem, 23, rfl⟩
abbrev cc1_stg13_1 : Ref sig .tc := ⟨.vmem, 24, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem11_0 : DmaSem sig := 21
abbrev cc1_sem12_0 : DmaSem sig := 22
abbrev cc1_sem13_0 : DmaSem sig := 23
abbrev cc1_sem13_1 : DmaSem sig := 24

abbrev nD : Nat := 1
abbrev τ : Topo := Topo.v7x

variable {F : FTy → Type} [BitOps F]

abbrev grid0 : Pipeline.Grid := ⟨1, ![16], ![false]⟩

@[reducible] def k0_t1_loop : Scf.Loop 32 :=
  let c0_i32 : BitVec 32 := 0#32
  let c7_i32 : BitVec 32 := 7#32
  let v53 : BitVec 32 := Scalar.addi c0_i32 c7_i32
  let c1_i32 : BitVec 32 := 1#32
  ⟨c0_i32, v53, c1_i32⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S19x20x20 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S19x19x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S19x19x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S19x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S128x19x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x19x19 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x19x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x80 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x64 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S128x19x64 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]
-- ==== KernelIdeal.lean ====
variable {F : FTy → Type} [FloatOps F]
-- ==== Eig.lean ====
abbrev S32x256x19x19 : Shape := ⟨4, ![32, 256, 19, 19]⟩
abbrev S19x20x20 : Shape := ⟨3, ![19, 20, 20]⟩
abbrev S8192x19x19 : Shape := ⟨3, ![8192, 19, 19]⟩
abbrev S19x19x8192 : Shape := ⟨3, ![19, 19, 8192]⟩
abbrev S19x16x8192 : Shape := ⟨3, ![19, 16, 8192]⟩
abbrev S19x19x512 : Shape := ⟨3, ![19, 19, 512]⟩
abbrev S19x16x512 : Shape := ⟨3, ![19, 16, 512]⟩
abbrev S19x512 : Shape := ⟨2, ![19, 512]⟩
abbrev S19x19 : Shape := ⟨2, ![19, 19]⟩
abbrev S19x1x512 : Shape := ⟨3, ![19, 1, 512]⟩
abbrev S1x19x512 : Shape := ⟨3, ![1, 19, 512]⟩
abbrev S19x19x1 : Shape := ⟨3, ![19, 19, 1]⟩
abbrev S19x20x512 : Shape := ⟨3, ![19, 20, 512]⟩
abbrev S1x1x512 : Shape := ⟨3, ![1, 1, 512]⟩
abbrev S1x20x512 : Shape := ⟨3, ![1, 20, 512]⟩
abbrev S20x20x512 : Shape := ⟨3, ![20, 20, 512]⟩
abbrev S20x20 : Shape := ⟨2, ![20, 20]⟩
abbrev S20x20x1 : Shape := ⟨3, ![20, 20, 1]⟩
abbrev S20x512 : Shape := ⟨2, ![20, 512]⟩
abbrev S1x20x20 : Shape := ⟨3, ![1, 20, 20]⟩
abbrev S20x1 : Shape := ⟨2, ![20, 1]⟩
abbrev S1x512 : Shape := ⟨2, ![1, 512]⟩
abbrev S20x1x512 : Shape := ⟨3, ![20, 1, 512]⟩
abbrev S512 : Shape := ⟨1, ![512]⟩

abbrev nBuf : Space → Nat
  | .hbm => 6
  | .vmem => 7
  | .smem => 0
  | _ => 0

abbrev bufTy : (tb : Table) → Fin (tcTables nBuf tb) → BufTy
  | .hbm, ⟨0, _⟩ => ⟨S32x256x19x19, .f32⟩
  | .hbm, ⟨1, _⟩ => ⟨S19x20x20, .f32⟩
  | .hbm, ⟨2, _⟩ => ⟨S8192x19x19, .f32⟩
  | .hbm, ⟨3, _⟩ => ⟨S19x19x8192, .f32⟩
  | .hbm, ⟨4, _⟩ => ⟨S19x19x8192, .f32⟩
  | .hbm, ⟨5, _⟩ => ⟨S19x16x8192, .f32⟩
  | .local _ .vmem, ⟨0, _⟩ => ⟨S19x20x20, .f32⟩
  | .local _ .vmem, ⟨1, _⟩ => ⟨S19x19x512, .f32⟩
  | .local _ .vmem, ⟨2, _⟩ => ⟨S19x19x512, .f32⟩
  | .local _ .vmem, ⟨3, _⟩ => ⟨S19x19x512, .f32⟩
  | .local _ .vmem, ⟨4, _⟩ => ⟨S19x19x512, .f32⟩
  | .local _ .vmem, ⟨5, _⟩ => ⟨S19x16x512, .f32⟩
  | .local _ .vmem, ⟨6, _⟩ => ⟨S19x16x512, .f32⟩
  | _, _ => ⟨S32x256x19x19, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [BitOps F]

abbrev grid0 : Pipeline.Grid := ⟨1, ![16], ![false]⟩

@[reducible] def k0_t1_loop : Scf.Loop 32 :=
  let c0_i32 : BitVec 32 := 0#32
  let c7_i32 : BitVec 32 := 7#32
  let v53 : BitVec 32 := Scalar.addi c0_i32 c7_i32
  let c1_i32 : BitVec 32 := 1#32
  ⟨c0_i32, v53, c1_i32⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S19x20x20 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S19x19x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S19x19x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S19x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== EigIdeal.lean ====
variable {F : FTy → Type} [FloatOps F]
-- ==== JacobiIdeal.lean ====
abbrev S32x256x19x19 : Shape := ⟨4, ![32, 256, 19, 19]⟩
abbrev S8192x19x19 : Shape := ⟨3, ![8192, 19, 19]⟩
abbrev S19x19 : Shape := ⟨2, ![19, 19]⟩
abbrev S_ : Shape := ⟨0, ![]⟩
abbrev S8192x19 : Shape := ⟨2, ![8192, 19]⟩
abbrev S8192x19x1 : Shape := ⟨3, ![8192, 19, 1]⟩
abbrev S8192x1x19 : Shape := ⟨3, ![8192, 1, 19]⟩
abbrev S1x19x19 : Shape := ⟨3, ![1, 19, 19]⟩
abbrev S19 : Shape := ⟨1, ![19]⟩
abbrev S8192 : Shape := ⟨1, ![8192]⟩
abbrev S19x1 : Shape := ⟨2, ![19, 1]⟩
abbrev S1x19 : Shape := ⟨2, ![1, 19]⟩
abbrev S8192x1x1 : Shape := ⟨3, ![8192, 1, 1]⟩
abbrev S8192x19x16 : Shape := ⟨3, ![8192, 19, 16]⟩
abbrev S8192x16 : Shape := ⟨2, ![8192, 16]⟩
abbrev S8192x1x16 : Shape := ⟨3, ![8192, 1, 16]⟩
abbrev S19x16x8192 : Shape := ⟨3, ![19, 16, 8192]⟩

abbrev nBuf : Space → Nat
  | .hbm => 220
  | .vmem => 0
  | .smem => 0
  | _ => 0

abbrev hbmTy0_0 (i : Nat) : BufTy := match i % 128 with
  | 0 => ⟨S32x256x19x19, .f32⟩
  | 1 => ⟨S8192x19x19, .f32⟩
  | 2 => ⟨S19x19, .i32⟩
  | 3 => ⟨S19x19, .i32⟩
  | 4 => ⟨S_, .i32⟩
  | 5 => ⟨S19x19, .i32⟩
  | 6 => ⟨S19x19, .i32⟩
  | 7 => ⟨S19x19, .i1⟩
  | 8 => ⟨S19x19, .f32⟩
  | 9 => ⟨S_, .f32⟩
  | 10 => ⟨S8192x19, .f32⟩
  | 11 => ⟨S_, .f32⟩
  | 12 => ⟨S_, .f32⟩
  | 13 => ⟨S8192x19, .f32⟩
  | 14 => ⟨S8192x19, .f32⟩
  | 15 => ⟨S8192x19, .f32⟩
  | 16 => ⟨S_, .f32⟩
  | 17 => ⟨S8192x19, .f32⟩
  | 18 => ⟨S8192x19, .f32⟩
  | 19 => ⟨S8192x19x1, .f32⟩
  | 20 => ⟨S8192x19x19, .f32⟩
  | 21 => ⟨S8192x19x19, .f32⟩
  | 22 => ⟨S8192x1x19, .f32⟩
  | 23 => ⟨S8192x19x19, .f32⟩
  | 24 => ⟨S8192x19x19, .f32⟩
  | 25 => ⟨S1x19x19, .f32⟩
  | 26 => ⟨S_, .f32⟩
  | 27 => ⟨S1x19x19, .f32⟩
  | 28 => ⟨S1x19x19, .f32⟩
  | 29 => ⟨S8192x19x19, .f32⟩
  | 30 => ⟨S8192x19x19, .f32⟩
  | 31 => ⟨S8192x19x19, .f32⟩
  | 32 => ⟨S8192x19x19, .f32⟩
  | 33 => ⟨S_, .f32⟩
  | 34 => ⟨S8192x19x19, .f32⟩
  | 35 => ⟨S8192x19x19, .f32⟩
  | 36 => ⟨S19, .i32⟩
  | 37 => ⟨S8192x19x19, .f32⟩
  | 38 => ⟨S_, .i32⟩
  | 39 => ⟨S_, .i32⟩
  | 40 => ⟨S19, .i32⟩
  | 41 => ⟨S19x19, .f32⟩
  | 42 => ⟨S_, .i32⟩
  | 43 => ⟨S_, .i32⟩
  | 44 => ⟨S8192x19x19, .f32⟩
  | 45 => ⟨S8192x19x19, .f32⟩
  | 46 => ⟨S_, .i32⟩
  | 47 => ⟨S_, .i1⟩
  | 48 => ⟨S_, .i32⟩
  | 49 => ⟨S_, .i32⟩
  | 50 => ⟨S_, .i32⟩
  | 51 => ⟨S_, .i32⟩
  | 52 => ⟨S_, .i32⟩
  | 53 => ⟨S_, .i32⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S_, .i32⟩
  | 66 => ⟨S_, .i32⟩
  | 67 => ⟨S_, .i32⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S_, .i32⟩
  | 76 => ⟨S_, .i32⟩
  | 77 => ⟨S19, .i32⟩
  | 78 => ⟨S19, .i1⟩
  | 79 => ⟨S19, .f32⟩
  | 80 => ⟨S_, .i32⟩
  | 81 => ⟨S19, .i32⟩
  | 82 => ⟨S19, .i1⟩
  | 83 => ⟨S19, .f32⟩
  | 84 => ⟨S8192x19, .f32⟩
  | 85 => ⟨S8192, .f32⟩
  | 86 => ⟨S8192x19, .f32⟩
  | 87 => ⟨S8192, .f32⟩
  | 88 => ⟨S8192x19, .f32⟩
  | 89 => ⟨S8192, .f32⟩
  | 90 => ⟨S8192, .f32⟩
  | 91 => ⟨S_, .f32⟩
  | 92 => ⟨S8192, .f32⟩
  | 93 => ⟨S8192, .f32⟩
  | 94 => ⟨S8192, .f32⟩
  | 95 => ⟨S_, .f32⟩
  | 96 => ⟨S8192, .f32⟩
  | 97 => ⟨S8192, .i1⟩
  | 98 => ⟨S_, .f32⟩
  | 99 => ⟨S_, .f32⟩
  | 100 => ⟨S8192, .f32⟩
  | 101 => ⟨S8192, .f32⟩
  | 102 => ⟨S8192, .f32⟩
  | 103 => ⟨S8192, .f32⟩
  | 104 => ⟨S8192, .f32⟩
  | 105 => ⟨S_, .f32⟩
  | 106 => ⟨S8192, .f32⟩
  | 107 => ⟨S8192, .f32⟩
  | 108 => ⟨S8192, .f32⟩
  | 109 => ⟨S8192, .f32⟩
  | 110 => ⟨S8192, .f32⟩
  | 111 => ⟨S8192, .f32⟩
  | 112 => ⟨S_, .f32⟩
  | 113 => ⟨S8192, .f32⟩
  | 114 => ⟨S8192, .i1⟩
  | 115 => ⟨S_, .f32⟩
  | 116 => ⟨S_, .f32⟩
  | 117 => ⟨S8192, .f32⟩
  | 118 => ⟨S8192, .f32⟩
  | 119 => ⟨S8192, .f32⟩
  | 120 => ⟨S_, .f32⟩
  | 121 => ⟨S8192, .f32⟩
  | 122 => ⟨S8192, .f32⟩
  | 123 => ⟨S8192, .f32⟩
  | 124 => ⟨S_, .f32⟩
  | 125 => ⟨S8192, .f32⟩
  | 126 => ⟨S8192, .f32⟩
  | 127 => ⟨S8192, .f32⟩
  | _ => ⟨S32x256x19x19, .f32⟩

abbrev hbmTy0_1 (i : Nat) : BufTy := match i % 128 with
  | 0 => ⟨S19x1, .f32⟩
  | 1 => ⟨S1x19, .f32⟩
  | 2 => ⟨S19x19, .f32⟩
  | 3 => ⟨S19x19, .f32⟩
  | 4 => ⟨S19x19, .f32⟩
  | 5 => ⟨S19x1, .f32⟩
  | 6 => ⟨S1x19, .f32⟩
  | 7 => ⟨S19x19, .f32⟩
  | 8 => ⟨S19x19, .f32⟩
  | 9 => ⟨S19x19, .f32⟩
  | 10 => ⟨S19x19, .f32⟩
  | 11 => ⟨S19x1, .f32⟩
  | 12 => ⟨S1x19, .f32⟩
  | 13 => ⟨S19x19, .f32⟩
  | 14 => ⟨S19x19, .f32⟩
  | 15 => ⟨S19x19, .f32⟩
  | 16 => ⟨S19x1, .f32⟩
  | 17 => ⟨S1x19, .f32⟩
  | 18 => ⟨S19x19, .f32⟩
  | 19 => ⟨S19x19, .f32⟩
  | 20 => ⟨S19x19, .f32⟩
  | 21 => ⟨S19x19, .f32⟩
  | 22 => ⟨S19x19, .f32⟩
  | 23 => ⟨S8192x1x1, .f32⟩
  | 24 => ⟨S1x19x19, .f32⟩
  | 25 => ⟨S8192x19x19, .f32⟩
  | 26 => ⟨S8192x19x19, .f32⟩
  | 27 => ⟨S8192x19x19, .f32⟩
  | 28 => ⟨S1x19x19, .f32⟩
  | 29 => ⟨S8192x19x19, .f32⟩
  | 30 => ⟨S8192x19x19, .f32⟩
  | 31 => ⟨S8192x1x1, .f32⟩
  | 32 => ⟨S1x19x19, .f32⟩
  | 33 => ⟨S8192x19x19, .f32⟩
  | 34 => ⟨S8192x19x19, .f32⟩
  | 35 => ⟨S8192x19x19, .f32⟩
  | 36 => ⟨S8192x19x19, .f32⟩
  | 37 => ⟨S8192x19x19, .f32⟩
  | 38 => ⟨S8192x19x19, .f32⟩
  | 39 => ⟨S8192x19x19, .f32⟩
  | 40 => ⟨S8192x19x19, .f32⟩
  | 41 => ⟨S_, .i32⟩
  | 42 => ⟨S_, .i32⟩
  | 43 => ⟨S19x19, .i32⟩
  | 44 => ⟨S19x19, .i32⟩
  | 45 => ⟨S_, .i32⟩
  | 46 => ⟨S19x19, .i32⟩
  | 47 => ⟨S19x19, .i32⟩
  | 48 => ⟨S19x19, .i1⟩
  | 49 => ⟨S19x19, .f32⟩
  | 50 => ⟨S1x19x19, .f32⟩
  | 51 => ⟨S8192x19x19, .f32⟩
  | 52 => ⟨S8192x19x19, .f32⟩
  | 53 => ⟨S_, .f32⟩
  | 54 => ⟨S8192x19, .f32⟩
  | 55 => ⟨S8192x1x19, .f32⟩
  | 56 => ⟨S8192x19x19, .f32⟩
  | 57 => ⟨S8192x19x19, .f32⟩
  | 58 => ⟨S8192x19x19, .f32⟩
  | 59 => ⟨S8192x19x16, .f32⟩
  | 60 => ⟨S_, .f32⟩
  | 61 => ⟨S8192x16, .f32⟩
  | 62 => ⟨S8192x1x16, .f32⟩
  | 63 => ⟨S8192x1x16, .f32⟩
  | 64 => ⟨S_, .f32⟩
  | 65 => ⟨S8192x1x16, .f32⟩
  | 66 => ⟨S8192x1x16, .i1⟩
  | 67 => ⟨S_, .f32⟩
  | 68 => ⟨S8192x1x16, .f32⟩
  | 69 => ⟨S8192x1x16, .f32⟩
  | 70 => ⟨S8192x19x16, .f32⟩
  | 71 => ⟨S8192x19x16, .f32⟩
  | 72 => ⟨S8192x19x16, .i1⟩
  | 73 => ⟨S_, .f32⟩
  | 74 => ⟨S_, .f32⟩
  | 75 => ⟨S8192x19x16, .f32⟩
  | 76 => ⟨S8192x19x16, .f32⟩
  | 77 => ⟨S_, .f32⟩
  | 78 => ⟨S8192x19x16, .f32⟩
  | 79 => ⟨S8192x19x16, .i1⟩
  | 80 => ⟨S_, .f32⟩
  | 81 => ⟨S_, .f32⟩
  | 82 => ⟨S8192x19x16, .f32⟩
  | 83 => ⟨S8192x19x16, .f32⟩
  | 84 => ⟨S_, .f32⟩
  | 85 => ⟨S8192x19x16, .f32⟩
  | 86 => ⟨S8192x19x16, .i1⟩
  | 87 => ⟨S_, .f32⟩
  | 88 => ⟨S_, .f32⟩
  | 89 => ⟨S8192x19x16, .f32⟩
  | 90 => ⟨S8192x19x16, .f32⟩
  | 91 => ⟨S19x16x8192, .f32⟩
  | _ => ⟨S32x256x19x19, .f32⟩

abbrev hbmTy (i : Nat) : BufTy := match i / 128 with
  | 0 => hbmTy0_0 i
  | 1 => hbmTy0_1 i
  | _ => ⟨S32x256x19x19, .f32⟩

abbrev bufTy : (tb : Table) → Fin (tcTables nBuf tb) → BufTy
  | .hbm, ⟨i, _⟩ => hbmTy i
  | _, _ => ⟨S32x256x19x19, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c_4 : Ref sig .tc := ⟨.hbm, 38, rfl⟩
abbrev main_c_5 : Ref sig .tc := ⟨.hbm, 39, rfl⟩
abbrev main_v29_0 : Ref sig .tc := ⟨.hbm, 40, rfl⟩
abbrev main_v29_1 : Ref sig .tc := ⟨.hbm, 41, rfl⟩
abbrev main_v29_2 : Ref sig .tc := ⟨.hbm, 42, rfl⟩
abbrev main_v29_3 : Ref sig .tc := ⟨.hbm, 43, rfl⟩
abbrev main_v29_4 : Ref sig .tc := ⟨.hbm, 44, rfl⟩
abbrev main_v29_5 : Ref sig .tc := ⟨.hbm, 45, rfl⟩
abbrev main_while0c_c_21 : Ref sig .tc := ⟨.hbm, 46, rfl⟩
abbrev main_while0c_v62 : Ref sig .tc := ⟨.hbm, 47, rfl⟩
abbrev main_while0b_c_21 : Ref sig .tc := ⟨.hbm, 48, rfl⟩
abbrev main_while0b_v62 : Ref sig .tc := ⟨.hbm, 49, rfl⟩
abbrev main_while0b_c_22 : Ref sig .tc := ⟨.hbm, 50, rfl⟩
abbrev main_while0b_v63 : Ref sig .tc := ⟨.hbm, 51, rfl⟩
abbrev main_while0b_c_23 : Ref sig .tc := ⟨.hbm, 52, rfl⟩
abbrev main_while0b_v64 : Ref sig .tc := ⟨.hbm, 53, rfl⟩
abbrev main_while0b_c_24 : Ref sig .tc := ⟨.hbm, 54, rfl⟩
abbrev main_while0b_v65 : Ref sig .tc := ⟨.hbm, 55, rfl⟩
abbrev main_while0b_c_25 : Ref sig .tc := ⟨.hbm, 56, rfl⟩
abbrev main_while0b_v66 : Ref sig .tc := ⟨.hbm, 57, rfl⟩
abbrev main_while0b_c_26 : Ref sig .tc := ⟨.hbm, 58, rfl⟩
abbrev main_while0b_v67 : Ref sig .tc := ⟨.hbm, 59, rfl⟩
abbrev main_while0b_v68 : Ref sig .tc := ⟨.hbm, 60, rfl⟩
abbrev main_while0b_c_27 : Ref sig .tc := ⟨.hbm, 61, rfl⟩
abbrev main_while0b_v69 : Ref sig .tc := ⟨.hbm, 62, rfl⟩
abbrev main_while0b_c_28 : Ref sig .tc := ⟨.hbm, 63, rfl⟩
abbrev main_while0b_v70 : Ref sig .tc := ⟨.hbm, 64, rfl⟩
abbrev main_while0b_c_29 : Ref sig .tc := ⟨.hbm, 65, rfl⟩
abbrev main_while0b_v71 : Ref sig .tc := ⟨.hbm, 66, rfl⟩
abbrev main_while0b_c_30 : Ref sig .tc := ⟨.hbm, 67, rfl⟩
abbrev main_while0b_v72 : Ref sig .tc := ⟨.hbm, 68, rfl⟩
abbrev main_while0b_v73 : Ref sig .tc := ⟨.hbm, 69, rfl⟩
abbrev main_while0b_c_31 : Ref sig .tc := ⟨.hbm, 70, rfl⟩
abbrev main_while0b_v74 : Ref sig .tc := ⟨.hbm, 71, rfl⟩
abbrev main_while0b_c_32 : Ref sig .tc := ⟨.hbm, 72, rfl⟩
abbrev main_while0b_v75 : Ref sig .tc := ⟨.hbm, 73, rfl⟩
abbrev main_while0b_v76 : Ref sig .tc := ⟨.hbm, 74, rfl⟩
abbrev main_while0b_v77 : Ref sig .tc := ⟨.hbm, 75, rfl⟩
abbrev main_while0b_v78 : Ref sig .tc := ⟨.hbm, 76, rfl⟩
abbrev main_while0b_v79 : Ref sig .tc := ⟨.hbm, 77, rfl⟩
abbrev main_while0b_v80 : Ref sig .tc := ⟨.hbm, 78, rfl⟩
abbrev main_while0b_v81 : Ref sig .tc := ⟨.hbm, 79, rfl⟩
abbrev main_while0b_v82 : Ref sig .tc := ⟨.hbm, 80, rfl⟩
abbrev main_while0b_v83 : Ref sig .tc := ⟨.hbm, 81, rfl⟩
abbrev main_while0b_v84 : Ref sig .tc := ⟨.hbm, 82, rfl⟩
abbrev main_while0b_v85 : Ref sig .tc := ⟨.hbm, 83, rfl⟩
abbrev main_while0b_v86 : Ref sig .tc := ⟨.hbm, 84, rfl⟩
abbrev main_while0b_v87 : Ref sig .tc := ⟨.hbm, 85, rfl⟩
abbrev main_while0b_v88 : Ref sig .tc := ⟨.hbm, 86, rfl⟩
abbrev main_while0b_v89 : Ref sig .tc := ⟨.hbm, 87, rfl⟩
abbrev main_while0b_v90 : Ref sig .tc := ⟨.hbm, 88, rfl⟩
abbrev main_while0b_v91 : Ref sig .tc := ⟨.hbm, 89, rfl⟩
abbrev main_while0b_v92 : Ref sig .tc := ⟨.hbm, 90, rfl⟩
abbrev main_while0b_cst_33 : Ref sig .tc := ⟨.hbm, 91, rfl⟩
abbrev main_while0b_v93 : Ref sig .tc := ⟨.hbm, 92, rfl⟩
abbrev main_while0b_v94 : Ref sig .tc := ⟨.hbm, 93, rfl⟩
abbrev main_while0b_v95 : Ref sig .tc := ⟨.hbm, 94, rfl⟩
abbrev main_while0b_cst_34 : Ref sig .tc := ⟨.hbm, 95, rfl⟩
abbrev main_while0b_v96 : Ref sig .tc := ⟨.hbm, 96, rfl⟩
abbrev main_while0b_v97 : Ref sig .tc := ⟨.hbm, 97, rfl⟩
abbrev main_while0b_cst_35 : Ref sig .tc := ⟨.hbm, 98, rfl⟩
abbrev main_while0b_cst_36 : Ref sig .tc := ⟨.hbm, 99, rfl⟩
abbrev main_while0b_call1_v0 : Ref sig .tc := ⟨.hbm, 100, rfl⟩
abbrev main_while0b_call1_v1 : Ref sig .tc := ⟨.hbm, 101, rfl⟩
abbrev main_while0b_v98 : Ref sig .tc := ⟨.hbm, 102, rfl⟩
abbrev main_while0b_v99 : Ref sig .tc := ⟨.hbm, 103, rfl⟩
abbrev main_while0b_v100 : Ref sig .tc := ⟨.hbm, 104, rfl⟩
abbrev main_while0b_cst_37 : Ref sig .tc := ⟨.hbm, 105, rfl⟩
abbrev main_while0b_v101 : Ref sig .tc := ⟨.hbm, 106, rfl⟩
abbrev main_while0b_v102 : Ref sig .tc := ⟨.hbm, 107, rfl⟩
abbrev main_while0b_v103 : Ref sig .tc := ⟨.hbm, 108, rfl⟩
abbrev main_while0b_v104 : Ref sig .tc := ⟨.hbm, 109, rfl⟩
abbrev main_while0b_v105 : Ref sig .tc := ⟨.hbm, 110, rfl⟩
abbrev main_while0b_v106 : Ref sig .tc := ⟨.hbm, 111, rfl⟩
abbrev main_while0b_cst_38 : Ref sig .tc := ⟨.hbm, 112, rfl⟩
abbrev main_while0b_v107 : Ref sig .tc := ⟨.hbm, 113, rfl⟩
abbrev main_while0b_v108 : Ref sig .tc := ⟨.hbm, 114, rfl⟩
abbrev main_while0b_cst_39 : Ref sig .tc := ⟨.hbm, 115, rfl⟩
abbrev main_while0b_call2_v0 : Ref sig .tc := ⟨.hbm, 116, rfl⟩
abbrev main_while0b_call2_v1 : Ref sig .tc := ⟨.hbm, 117, rfl⟩
abbrev main_while0b_v109 : Ref sig .tc := ⟨.hbm, 118, rfl⟩
abbrev main_while0b_v110 : Ref sig .tc := ⟨.hbm, 119, rfl⟩
abbrev main_while0b_cst_40 : Ref sig .tc := ⟨.hbm, 120, rfl⟩
abbrev main_while0b_v111 : Ref sig .tc := ⟨.hbm, 121, rfl⟩
abbrev main_while0b_v112 : Ref sig .tc := ⟨.hbm, 122, rfl⟩
abbrev main_while0b_v113 : Ref sig .tc := ⟨.hbm, 123, rfl⟩
abbrev main_while0b_cst_41 : Ref sig .tc := ⟨.hbm, 124, rfl⟩
abbrev main_while0b_v114 : Ref sig .tc := ⟨.hbm, 125, rfl⟩
abbrev main_while0b_v115 : Ref sig .tc := ⟨.hbm, 126, rfl⟩
abbrev main_while0b_v116 : Ref sig .tc := ⟨.hbm, 127, rfl⟩
abbrev main_while0b_v117 : Ref sig .tc := ⟨.hbm, 128, rfl⟩
abbrev main_while0b_v118 : Ref sig .tc := ⟨.hbm, 129, rfl⟩
abbrev main_while0b_v119 : Ref sig .tc := ⟨.hbm, 130, rfl⟩
abbrev main_while0b_v120 : Ref sig .tc := ⟨.hbm, 131, rfl⟩
abbrev main_while0b_v121 : Ref sig .tc := ⟨.hbm, 132, rfl⟩
abbrev main_while0b_v122 : Ref sig .tc := ⟨.hbm, 133, rfl⟩
abbrev main_while0b_v123 : Ref sig .tc := ⟨.hbm, 134, rfl⟩
abbrev main_while0b_v124 : Ref sig .tc := ⟨.hbm, 135, rfl⟩
abbrev main_while0b_v125 : Ref sig .tc := ⟨.hbm, 136, rfl⟩
abbrev main_while0b_v126 : Ref sig .tc := ⟨.hbm, 137, rfl⟩
abbrev main_while0b_v127 : Ref sig .tc := ⟨.hbm, 138, rfl⟩
abbrev main_while0b_v128 : Ref sig .tc := ⟨.hbm, 139, rfl⟩
abbrev main_while0b_v129 : Ref sig .tc := ⟨.hbm, 140, rfl⟩
abbrev main_while0b_v130 : Ref sig .tc := ⟨.hbm, 141, rfl⟩
abbrev main_while0b_v131 : Ref sig .tc := ⟨.hbm, 142, rfl⟩
abbrev main_while0b_v132 : Ref sig .tc := ⟨.hbm, 143, rfl⟩
abbrev main_while0b_v133 : Ref sig .tc := ⟨.hbm, 144, rfl⟩
abbrev main_while0b_v134 : Ref sig .tc := ⟨.hbm, 145, rfl⟩
abbrev main_while0b_v135 : Ref sig .tc := ⟨.hbm, 146, rfl⟩
abbrev main_while0b_v136 : Ref sig .tc := ⟨.hbm, 147, rfl⟩
abbrev main_while0b_v137 : Ref sig .tc := ⟨.hbm, 148, rfl⟩
abbrev main_while0b_v138 : Ref sig .tc := ⟨.hbm, 149, rfl⟩
abbrev main_while0b_v139 : Ref sig .tc := ⟨.hbm, 150, rfl⟩
abbrev main_while0b_v140 : Ref sig .tc := ⟨.hbm, 151, rfl⟩
abbrev main_while0b_v141 : Ref sig .tc := ⟨.hbm, 152, rfl⟩
abbrev main_while0b_v142 : Ref sig .tc := ⟨.hbm, 153, rfl⟩
abbrev main_while0b_v143 : Ref sig .tc := ⟨.hbm, 154, rfl⟩
abbrev main_while0b_v144 : Ref sig .tc := ⟨.hbm, 155, rfl⟩
abbrev main_while0b_v145 : Ref sig .tc := ⟨.hbm, 156, rfl⟩
abbrev main_while0b_v146 : Ref sig .tc := ⟨.hbm, 157, rfl⟩
abbrev main_while0b_v147 : Ref sig .tc := ⟨.hbm, 158, rfl⟩
abbrev main_while0b_v148 : Ref sig .tc := ⟨.hbm, 159, rfl⟩
abbrev main_while0b_v149 : Ref sig .tc := ⟨.hbm, 160, rfl⟩
abbrev main_while0b_v150 : Ref sig .tc := ⟨.hbm, 161, rfl⟩
abbrev main_while0b_v151 : Ref sig .tc := ⟨.hbm, 162, rfl⟩
abbrev main_while0b_v152 : Ref sig .tc := ⟨.hbm, 163, rfl⟩
abbrev main_while0b_v153 : Ref sig .tc := ⟨.hbm, 164, rfl⟩
abbrev main_while0b_v154 : Ref sig .tc := ⟨.hbm, 165, rfl⟩
abbrev main_while0b_v155 : Ref sig .tc := ⟨.hbm, 166, rfl⟩
abbrev main_while0b_v156 : Ref sig .tc := ⟨.hbm, 167, rfl⟩
abbrev main_while0b_v157 : Ref sig .tc := ⟨.hbm, 168, rfl⟩
abbrev main_while0b_c_42 : Ref sig .tc := ⟨.hbm, 169, rfl⟩
abbrev main_while0b_v158 : Ref sig .tc := ⟨.hbm, 170, rfl⟩
abbrev main_v30 : Ref sig .tc := ⟨.hbm, 171, rfl⟩
abbrev main_v31 : Ref sig .tc := ⟨.hbm, 172, rfl⟩
abbrev main_c_6 : Ref sig .tc := ⟨.hbm, 173, rfl⟩
abbrev main_v32 : Ref sig .tc := ⟨.hbm, 174, rfl⟩
abbrev main_v33 : Ref sig .tc := ⟨.hbm, 175, rfl⟩
abbrev main_v34 : Ref sig .tc := ⟨.hbm, 176, rfl⟩
abbrev main_v35 : Ref sig .tc := ⟨.hbm, 177, rfl⟩
abbrev main_v36 : Ref sig .tc := ⟨.hbm, 178, rfl⟩
abbrev main_v37 : Ref sig .tc := ⟨.hbm, 179, rfl⟩
abbrev main_v38 : Ref sig .tc := ⟨.hbm, 180, rfl⟩
abbrev main_cst_7 : Ref sig .tc := ⟨.hbm, 181, rfl⟩
abbrev main_v39 : Ref sig .tc := ⟨.hbm, 182, rfl⟩
abbrev main_v40 : Ref sig .tc := ⟨.hbm, 183, rfl⟩
abbrev main_v41 : Ref sig .tc := ⟨.hbm, 184, rfl⟩
abbrev main_v42_0 : Ref sig .tc := ⟨.hbm, 185, rfl⟩
abbrev main_v42_1 : Ref sig .tc := ⟨.hbm, 186, rfl⟩
abbrev main_v43 : Ref sig .tc := ⟨.hbm, 187, rfl⟩
abbrev main_cst_8 : Ref sig .tc := ⟨.hbm, 188, rfl⟩
abbrev main_v44 : Ref sig .tc := ⟨.hbm, 189, rfl⟩
abbrev main_v45 : Ref sig .tc := ⟨.hbm, 190, rfl⟩
abbrev main_v46 : Ref sig .tc := ⟨.hbm, 191, rfl⟩
abbrev main_cst_9 : Ref sig .tc := ⟨.hbm, 192, rfl⟩
abbrev main_v47 : Ref sig .tc := ⟨.hbm, 193, rfl⟩
abbrev main_v48 : Ref sig .tc := ⟨.hbm, 194, rfl⟩
abbrev main_cst_10 : Ref sig .tc := ⟨.hbm, 195, rfl⟩
abbrev main_v49 : Ref sig .tc := ⟨.hbm, 196, rfl⟩
abbrev main_v50 : Ref sig .tc := ⟨.hbm, 197, rfl⟩
abbrev main_v51 : Ref sig .tc := ⟨.hbm, 198, rfl⟩
abbrev main_v52 : Ref sig .tc := ⟨.hbm, 199, rfl⟩
abbrev main_v53 : Ref sig .tc := ⟨.hbm, 200, rfl⟩
abbrev main_cst_11 : Ref sig .tc := ⟨.hbm, 201, rfl⟩
abbrev main_call4_v0 : Ref sig .tc := ⟨.hbm, 202, rfl⟩
abbrev main_call4_v1 : Ref sig .tc := ⟨.hbm, 203, rfl⟩
abbrev main_v54 : Ref sig .tc := ⟨.hbm, 204, rfl⟩
abbrev main_cst_12 : Ref sig .tc := ⟨.hbm, 205, rfl⟩
abbrev main_v55 : Ref sig .tc := ⟨.hbm, 206, rfl⟩
abbrev main_v56 : Ref sig .tc := ⟨.hbm, 207, rfl⟩
abbrev main_cst_13 : Ref sig .tc := ⟨.hbm, 208, rfl⟩
abbrev main_call5_v0 : Ref sig .tc := ⟨.hbm, 209, rfl⟩
abbrev main_call5_v1 : Ref sig .tc := ⟨.hbm, 210, rfl⟩
abbrev main_v57 : Ref sig .tc := ⟨.hbm, 211, rfl⟩
abbrev main_cst_14 : Ref sig .tc := ⟨.hbm, 212, rfl⟩
abbrev main_v58 : Ref sig .tc := ⟨.hbm, 213, rfl⟩
abbrev main_v59 : Ref sig .tc := ⟨.hbm, 214, rfl⟩
abbrev main_cst_15 : Ref sig .tc := ⟨.hbm, 215, rfl⟩
abbrev main_call6_v0 : Ref sig .tc := ⟨.hbm, 216, rfl⟩
abbrev main_call6_v1 : Ref sig .tc := ⟨.hbm, 217, rfl⟩
abbrev main_v60 : Ref sig .tc := ⟨.hbm, 218, rfl⟩
abbrev main_v61 : Ref sig .tc := ⟨.hbm, 219, rfl⟩

abbrev nD : Nat := 1
abbrev τ : Topo := Topo.v7x

variable {F : FTy → Type} [FloatOps F]

abbrev main_while0_count : Scf.Loop 32 := ⟨0#32, 1330#32, 1#32⟩
-- ==== Proof.Spec.lean ====
/-
  The graph mixer as a function of ONE graph's arrays, over the extended reals: the edge weights, the symmetric
  normalisation, two SSG convolutions and two layer norms. No program is named here: the kernel's block and the
  reference's whole array are each shown to be this function, graph by graph.
-/
module

public import Idealize.ShloMosaic.PureOps.Ideal.Laws
public import Idealize.ShloMosaic.Lib.IdealHost

@[expose] public section

noncomputable section

namespace Cert.Spec

open Idealize.ShloMosaic

/-- An extended real: what a float is at the ideal instance. -/
abbrev E : Type := EReal

/-- `0.05`, `0.475`, `64` and `1e-5`, each the rational that its float word is. -/
abbrev alpha : E := Ideal.ofBits .f32 0x3D4CCCCD#32
abbrev beta : E := Ideal.ofBits .f32 0x3EF33333#32
abbrev width : E := Ideal.ofBits .f32 0x42800000#32
abbrev eps : E := Ideal.ofBits .f32 0x3727C5AC#32

/-- One where the edge exists, else zero. -/
def mask (a : E) : E := if 0 < a then 1 else 0

/-- The identity matrix. -/
def delta {n : Nat} (i j : Fin n) : E := if i = j then 1 else 0

/-- Softplus of `z`. -/
def softplus (z : E) : E := max z 0 + Ideal.log1p (Ideal.exp (-(max z (-z))))

/-- The transformed edge weights with the missing self loops added. -/
def weight (a : Fin 19 → Fin 19 → E) (we be : E) (i j : Fin 19) : E :=
  softplus (a i j * we + be) * mask (a i j) + (1 - mask (a i i)) * delta i j

/-- The degree of a target: the sum of its column. -/
def deg (a : Fin 19 → Fin 19 → E) (we be : E) (j : Fin 19) : E := ∑ i, weight a we be i j

/-- `deg ^ (-1/2)`, zero where the degree is not positive. -/
def dinv (a : Fin 19 → Fin 19 → E) (we be : E) (j : Fin 19) : E :=
  if 0 < deg a we be j then Ideal.rsqrt (deg a we be j) else 0

/-- The normalised adjacency. -/
def anorm (a : Fin 19 → Fin 19 → E) (we be : E) (i j : Fin 19) : E :=
  dinv a we be i * weight a we be i j * dinv a we be j

/-- One hop: every node sums its sources, weighted. -/
def hop {D : Nat} (A : Fin 19 → Fin 19 → E) (v : Fin 19 → Fin D → E) (n : Fin 19) (d : Fin D) : E :=
  ∑ k, A k n * v k d

/-- The features after two hops, mixed with weights `alpha`, `beta`, `beta`. -/
def mixed {D : Nat} (A : Fin 19 → Fin 19 → E) (v : Fin 19 → Fin D → E) (n : Fin 19) (d : Fin D) : E :=
  alpha * v n d + beta * hop A v n d + beta * hop A (hop A v) n d

/-- An SSG convolution: the mixed features through the linear map `W`, `b`. -/
def ssg {D : Nat} (A : Fin 19 → Fin 19 → E) (v : Fin 19 → Fin D → E) (W : Fin 64 → Fin D → E) (b : Fin 64 → E)
    (n : Fin 19) (o : Fin 64) : E :=
  (∑ d, mixed A v n d * W o d) + b o

/-- The mean of a row. -/
def mean (v : Fin 64 → E) : E := Ideal.div (∑ d, v d) width

/-- The variance of a row. -/
def var (v : Fin 64 → E) : E := Ideal.div (∑ d, (v d - mean v) * (v d - mean v)) width

/-- Layer norm of a row. -/
def norm (v g b : Fin 64 → E) (d : Fin 64) : E :=
  (v d - mean v) * Ideal.rsqrt (var v + eps) * g d + b d

/-- The features with the positional encoding appended. -/
def withPe (x : Fin 19 → Fin 64 → E) (pe : Fin 19 → Fin 16 → E) (n : Fin 19) (d : Fin 80) : E :=
  if h : d.val < 64 then x n ⟨d.val, h⟩ else pe n ⟨d.val - 64, by omega⟩

/-- The first layer. -/
def layer0 (x : Fin 19 → Fin 64 → E) (a : Fin 19 → Fin 19 → E) (pe : Fin 19 → Fin 16 → E) (we be : E)
    (W0 : Fin 64 → Fin 80 → E) (b0 g0 bt0 : Fin 64 → E) (n : Fin 19) : Fin 64 → E :=
  norm (ssg (anorm a we be) (withPe x pe) W0 b0 n) g0 bt0

/-- The mixer's result for one graph: the first layer plus the second layer of it. -/
def out (x : Fin 19 → Fin 64 → E) (a : Fin 19 → Fin 19 → E) (pe : Fin 19 → Fin 16 → E) (we be : E)
    (W0 : Fin 64 → Fin 80 → E) (b0 : Fin 64 → E) (W1 : Fin 64 → Fin 64 → E) (b1 g0 bt0 g1 bt1 : Fin 64 → E)
    (n : Fin 19) (d : Fin 64) : E :=
  layer0 x a pe we be W0 b0 g0 bt0 n d
    + norm (ssg (anorm a we be) (layer0 x a pe we be W0 b0 g0 bt0) W1 b1 n) g1 bt1 d

/-- Equal arrays, equal results. -/
theorem out_congr {x x' : Fin 19 → Fin 64 → E} {a a' : Fin 19 → Fin 19 → E} {pe pe' : Fin 19 → Fin 16 → E} {we we' be be' : E}
    {W0 W0' : Fin 64 → Fin 80 → E} {b0 b0' : Fin 64 → E} {W1 W1' : Fin 64 → Fin 64 → E}
    {b1 b1' g0 g0' bt0 bt0' g1 g1' bt1 bt1' : Fin 64 → E} (hx : ∀ n d, x n d = x' n d) (ha : ∀ i j, a i j = a' i j)
    (hp : ∀ n k, pe n k = pe' n k) (hwe : we = we') (hbe : be = be') (hW0 : ∀ o d, W0 o d = W0' o d) (hb0 : ∀ o, b0 o = b0' o)
    (hW1 : ∀ o d, W1 o d = W1' o d) (hb1 : ∀ o, b1 o = b1' o) (hg0 : ∀ o, g0 o = g0' o) (hbt0 : ∀ o, bt0 o = bt0' o)
    (hg1 : ∀ o, g1 o = g1' o) (hbt1 : ∀ o, bt1 o = bt1' o) (n : Fin 19) (d : Fin 64) :
    out x a pe we be W0 b0 W1 b1 g0 bt0 g1 bt1 n d = out x' a' pe' we' be' W0' b0' W1' b1' g0' bt0' g1' bt1' n d := by
  obtain rfl : x = x' := funext fun n => funext (hx n)
  obtain rfl : a = a' := funext fun n => funext (ha n)
  obtain rfl : pe = pe' := funext fun n => funext (hp n)
  obtain rfl : W0 = W0' := funext fun n => funext (hW0 n)
  obtain rfl : W1 = W1' := funext fun n => funext (hW1 n)
  obtain rfl : b0 = b0' := funext hb0
  obtain rfl : b1 = b1' := funext hb1
  obtain rfl : g0 = g0' := funext hg0
  obtain rfl : bt0 = bt0' := funext hbt0
  obtain rfl : g1 = g1' := funext hg1
  obtain rfl : bt1 = bt1' := funext hbt1
  rw [hwe, hbe]

/-! ## Facts about the scalar functions -/

/-- Dividing by the root of a positive number is multiplying by its reciprocal root. -/
theorem div_sqrt {y : E} (hy : 0 < y) (x : E) : Ideal.div x (Ideal.sqrt y) = x * Ideal.rsqrt y := by
  induction y using EReal.rec with
  | bot => simp at hy
  | top =>
    have h1 : Ideal.sqrt ⊤ = ⊤ := rfl
    have h2 : Ideal.rsqrt ⊤ = 0 := rfl
    rw [h1, h2]; simp [Ideal.div]
  | coe r =>
    have hr : 0 < r := by exact_mod_cast hy
    have h0 : ¬ r < 0 := not_lt.mpr hr.le
    have hs : (0 : ℝ) < Real.sqrt r := Real.sqrt_pos.mpr hr
    have hs0 : ((Real.sqrt r : ℝ) : EReal) ≠ 0 := by
      intro h; exact hs.ne' (by exact_mod_cast h)
    have h1 : Ideal.sqrt (r : EReal) = ((Real.sqrt r : ℝ) : EReal) := if_neg h0
    have h2 : Ideal.rsqrt (r : EReal) = (((Real.sqrt r)⁻¹ : ℝ) : EReal) :=
      (if_neg h0).trans (if_neg hr.ne')
    rw [h1, h2, Ideal.div, if_neg hs0, EReal.coe_inv]

/-- A square is not negative. -/
theorem mul_self_nonneg' (x : E) : 0 ≤ x * x := by
  induction x using EReal.rec with
  | bot => simp
  | top => simp
  | coe r => rw [← EReal.coe_mul]; exact_mod_cast mul_self_nonneg r

theorem width_eq : width = ((64 : ℝ) : EReal) := by
  simp [Ideal.ofBits, Ideal.ieee, -EReal.coe_mul]; norm_num

theorem eps_pos : 0 < eps := by
  simp [Ideal.ofBits, Ideal.ieee, -EReal.coe_mul]

/-- The variance is not negative. -/
theorem var_nonneg (v : Fin 64 → E) : 0 ≤ var v := by
  unfold var
  rw [width_eq, Ideal.div_coe (by norm_num : (64 : ℝ) ≠ 0)]
  refine mul_nonneg (Finset.sum_nonneg fun d _ => mul_self_nonneg' _) ?_
  exact_mod_cast (by norm_num : (0 : ℝ) ≤ 1 / 64)

theorem var_eps_pos (v : Fin 64 → E) : 0 < var v + eps :=
  lt_of_lt_of_le eps_pos (le_add_of_nonneg_left (var_nonneg v))

/-- The layer norm written with a quotient by the root. -/
theorem norm_div (v g b : Fin 64 → E) (d : Fin 64) :
    norm v g b d = Ideal.div (v d - mean v) (Ideal.sqrt (var v + eps)) * g d + b d := by
  rw [div_sqrt (var_eps_pos v)]; rfl

/-- The inverse root of the degree written with a quotient by the root. -/
theorem dinv_div (a : Fin 19 → Fin 19 → E) (we be : E) (j : Fin 19) :
    dinv a we be j = if 0 < deg a we be j then Ideal.div 1 (Ideal.sqrt (deg a we be j)) else 0 := by
  unfold dinv
  split
  · rename_i h; rw [div_sqrt h, one_mul]
  · rfl

/-- A sum against a row of the identity picks the diagonal. -/
theorem sum_delta {n : Nat} (f : Fin n → E) (i : Fin n) : ∑ j, f j * delta i j = f i := by
  rw [Finset.sum_eq_single i]
  · simp [delta]
  · intro j _ h; simp [delta, Ne.symm h]
  · simp

end Cert.Spec

end
-- ==== Proof.MixerBlock.lean ====
/-
  What the mixer's body computes of one block of 128 graphs: at graph `g` of the block it is `Cert.Spec.out` of that
  graph's arrays. Each payload of the body is read at an index and met with the function of `Spec` that it is.
-/
module

public import proofs.«01_k».proof.Proof.Gen.MixerIdeal.Skeleton
public import proofs.«01_k».proof.Proof.Spec
public import Idealize.ShloMosaic.Lib.Pointwise

@[expose] public section

set_option maxRecDepth 16384

noncomputable section

open Idealize.ShloMosaic

namespace Cert.MixerIdeal.Block

open Cert.MixerIdeal.Gen Cert.Spec

/-- A condition converted to a float: one where it holds, else zero. -/
theorem sitofp_bit (p : Prop) [Decidable p] :
    (FloatOps.sitofp FTy.f32 (BitVec.setWidth 32 (BitVec.ofBool (decide p))) : Ideal .f32) = if p then (1 : EReal) else 0 := by
  by_cases h : p
  · rw [if_pos h, decide_eq_true h]
    show ((((1#32 : BitVec 32).toInt : ℤ) : ℝ) : EReal) = 1
    simp
  · rw [if_neg h, decide_eq_false h]
    show ((((0#32 : BitVec 32).toInt : ℤ) : ℝ) : EReal) = 0
    simp

/-- The mask of the edges. -/
theorem mask_apply (v2 : Vec Ideal S128x19x19 .f32) (g : Fin 128) (i j : Fin 19) :
    k0_pay4 v2 (ix3 g i j) = mask (v2 (ix3 g i j)) := by
  pointwise [k0_pay4, k0_pay3]
  exact sitofp_bit _

/-- The softplus of the edges, masked. -/
theorem edge_apply (v2 : Vec Ideal S128x19x19 .f32) (v5 v7 : Vec Ideal S1x1 .f32) (g : Fin 128) (i j : Fin 19) :
    k0_pay5 v2 v5 v7 (ix3 g i j)
      = softplus (v2 (ix3 g i j) * v5 (ix2 0 0) + v7 (ix2 0 0)) * mask (v2 (ix3 g i j)) := by
  rw [← mask_apply]
  pointwise [k0_pay5, k0_pay3]
  rw [if_neg (by simp)]
  simp only [zero_sub, Ideal.absf_def]
  rfl

/-- The identity matrix. -/
theorem eye_apply (i j : Fin 19) : k0_pay6 (F := Ideal) (ix2 i j) = delta i j := by
  pointwise [k0_pay6]
  have h : IntOp.cmpi CmpIPredicate.eq (IntOp.addi (BitVec.ofNat 32 ↑i) 0#32) (BitVec.ofNat 32 ↑j)
      = BitVec.ofBool (decide (i = j)) := by
    revert i j; decide +kernel
  rw [h]; exact sitofp_bit _

/-- The mask times the identity. -/
theorem maskEye_apply (v2 : Vec Ideal S128x19x19 .f32) (g : Fin 128) (i j : Fin 19) :
    k0_pay7 v2 (ix3 g i j) = mask (v2 (ix3 g i j)) * delta i j := by
  rw [← mask_apply, ← eye_apply]
  pointwise [k0_pay7]

/-- The normalised adjacency of the block. -/
theorem anorm_apply (v2 : Vec Ideal S128x19x19 .f32) (v5 v7 : Vec Ideal S1x1 .f32) (g : Fin 128) (i j : Fin 19) :
    k0_pay8 (k0_pay5 v2 v5 v7) (k0_pay6 (F := Ideal)) (k0_pay7 v2) (ix3 g i j)
      = anorm (fun i j => v2 (ix3 g i j)) (v5 (ix2 0 0)) (v7 (ix2 0 0)) i j := by
  unfold anorm dinv deg weight
  pointwise [k0_pay8]
  simp only [edge_apply, eye_apply, maskEye_apply, sum_delta]

/-- The first convolution of the block. -/
theorem ssg0_apply (v1 : FVec Ideal S128x19x64 .f32) (v4 : Vec Ideal S128x19x16 .f32) (v31 : FVec Ideal S128x19x19 .f32)
    (v38 : FVec Ideal S19x19 .f32) (v41 : FVec Ideal S128x19x19 .f32) (v64 : Vec Ideal S64x80 .f32)
    (v76 : Vec Ideal S1x64 .f32) (g : Fin 128) (i : Fin 19) (d : Fin 64) :
    k0_pay9 v1 v4 v31 v38 v41 v64 v76 (ix3 g i d)
      = ssg (fun i j => k0_pay8 v31 v38 v41 (ix3 g i j)) (withPe (fun n d => v1 (ix3 g n d)) (fun n d => v4 (ix3 g n d)))
          (fun o d => v64 (ix2 o d)) (fun o => v76 (ix2 0 o)) i d := by
  unfold ssg mixed hop withPe
  pointwise [k0_pay9]

/-- The row means after the first convolution. -/
theorem mean0_apply (v1 : FVec Ideal S128x19x64 .f32) (v4 : Vec Ideal S128x19x16 .f32) (v31 : FVec Ideal S128x19x19 .f32)
    (v38 : FVec Ideal S19x19 .f32) (v41 : FVec Ideal S128x19x19 .f32) (v64 : Vec Ideal S64x80 .f32)
    (v76 : Vec Ideal S1x64 .f32) (g : Fin 128) (i : Fin 19) :
    k0_pay10 v1 v4 v31 v38 v41 v64 v76 (ix3 g i 0) = mean (fun d => k0_pay9 v1 v4 v31 v38 v41 v64 v76 (ix3 g i d)) := by
  unfold mean
  pointwise [k0_pay10]

/-- The first layer norm of the block, given the row means. -/
theorem norm0_apply (v80 : FVec Ideal S128x19x64 .f32) (v84 : FVec Ideal S128x19x1 .f32) (v97 v102 : Vec Ideal S1x64 .f32)
    (g : Fin 128) (i : Fin 19) (d : Fin 64) (hm : v84 (ix3 g i 0) = mean (fun d => v80 (ix3 g i d))) :
    k0_pay11 v80 v84 v97 v102 (ix3 g i d)
      = Spec.norm (fun d => v80 (ix3 g i d)) (fun d => v97 (ix2 0 d)) (fun d => v102 (ix2 0 d)) d := by
  unfold Spec.norm var
  rw [← hm]
  pointwise [k0_pay11]

/-- The second convolution of the block. -/
theorem ssg1_apply (v62 : FVec Ideal S128x19x19 .f32) (v80 : FVec Ideal S128x19x64 .f32) (v84 : FVec Ideal S128x19x1 .f32)
    (v97 v102 : Vec Ideal S1x64 .f32) (v107 : Vec Ideal S64x64 .f32) (v119 : Vec Ideal S1x64 .f32)
    (g : Fin 128) (i : Fin 19) (d : Fin 64) :
    k0_pay12 v62 v80 v84 v97 v102 v107 v119 (ix3 g i d)
      = ssg (fun i j => v62 (ix3 g i j)) (fun n d => k0_pay11 v80 v84 v97 v102 (ix3 g n d)) (fun o d => v107 (ix2 o d))
          (fun o => v119 (ix2 0 o)) i d := by
  unfold ssg mixed hop
  pointwise [k0_pay12]

/-- The row sums after the second convolution. -/
theorem sum1_apply (v62 : FVec Ideal S128x19x19 .f32) (v80 : FVec Ideal S128x19x64 .f32) (v84 : FVec Ideal S128x19x1 .f32)
    (v97 v102 : Vec Ideal S1x64 .f32) (v107 : Vec Ideal S64x64 .f32) (v119 : Vec Ideal S1x64 .f32)
    (g : Fin 128) (i : Fin 19) :
    k0_pay13 v62 v80 v84 v97 v102 v107 v119 (ix3 g i 0) = ∑ d, k0_pay12 v62 v80 v84 v97 v102 v107 v119 (ix3 g i d) := by
  pointwise [k0_pay13]

/-- The sum of the first layer and the second layer norm, given the row sums. -/
theorem out_apply (v106 v123 : FVec Ideal S128x19x64 .f32) (v125 : FVec Ideal S128x19x1 .f32) (v140 v145 : Vec Ideal S1x64 .f32)
    (g : Fin 128) (i : Fin 19) (d : Fin 64) (hs : v125 (ix3 g i 0) = ∑ d, v123 (ix3 g i d)) :
    k0_pay1 v106 v123 v125 (Scalar.ofBits .f32 0x42800000#32) v140 v145 (ix3 g i d)
      = v106 (ix3 g i d) + Spec.norm (fun d => v123 (ix3 g i d)) (fun d => v140 (ix2 0 d)) (fun d => v145 (ix2 0 d)) d := by
  unfold Spec.norm var mean
  rw [← hs]
  pointwise [k0_pay1]

/-- The body's stored value, from its loaded blocks. -/
def stored (x0 : Vec Ideal S128x19x64 .f32) (x1 : Vec Ideal S128x19x19 .f32) (x2 : Vec Ideal S128x19x16 .f32)
    (x3 x4 : Vec Ideal S1x1 .f32) (x5 : Vec Ideal S64x80 .f32) (x6 : Vec Ideal S1x64 .f32) (x7 : Vec Ideal S64x64 .f32)
    (x8 x9 x10 x11 x12 : Vec Ideal S1x64 .f32) : FVec Ideal S128x19x64 .f32 :=
  let e := k0_pay5 x1 x3 x4
  let a := k0_pay8 e (k0_pay6 (F := Ideal)) (k0_pay7 x1)
  let h := k0_pay9 (k0_pay2 x0) x2 e (k0_pay6 (F := Ideal)) (k0_pay7 x1) x5 x6
  let u := k0_pay10 (k0_pay2 x0) x2 e (k0_pay6 (F := Ideal)) (k0_pay7 x1) x5 x6
  k0_pay1 (k0_pay11 h u x9 x10) (k0_pay12 a h u x9 x10 x7 x8) (k0_pay13 a h u x9 x10 x7 x8)
    (Scalar.ofBits .f32 0x42800000#32) x11 x12

/-- At graph `g`, node `n`, feature `d` of the block the body stores `Spec.out` of the graph's arrays. -/
theorem stored_apply (x0 : Vec Ideal S128x19x64 .f32) (x1 : Vec Ideal S128x19x19 .f32) (x2 : Vec Ideal S128x19x16 .f32)
    (x3 x4 : Vec Ideal S1x1 .f32) (x5 : Vec Ideal S64x80 .f32) (x6 : Vec Ideal S1x64 .f32) (x7 : Vec Ideal S64x64 .f32)
    (x8 x9 x10 x11 x12 : Vec Ideal S1x64 .f32) (g : Fin 128) (n : Fin 19) (d : Fin 64) :
    stored x0 x1 x2 x3 x4 x5 x6 x7 x8 x9 x10 x11 x12 (ix3 g n d)
      = out (fun n d => x0 (ix3 g n d)) (fun i j => x1 (ix3 g i j)) (fun n k => x2 (ix3 g n k)) (x3 (ix2 0 0)) (x4 (ix2 0 0))
          (fun o d => x5 (ix2 o d)) (fun o => x6 (ix2 0 o)) (fun o d => x7 (ix2 o d)) (fun o => x8 (ix2 0 o))
          (fun o => x9 (ix2 0 o)) (fun o => x10 (ix2 0 o)) (fun o => x11 (ix2 0 o)) (fun o => x12 (ix2 0 o)) n d := by
  have hx : ∀ (n : Fin 19) (d : Fin 64), k0_pay2 x0 (ix3 g n d) = x0 (ix3 g n d) := fun n d => by
    pointwise [k0_pay2]
  unfold stored
  rw [out_apply _ _ _ _ _ _ _ _ (sum1_apply _ _ _ _ _ _ _ _ _)]
  simp only [ssg1_apply, norm0_apply _ _ _ _ _ _ _ (mean0_apply _ _ _ _ _ _ _ _ _), ssg0_apply, anorm_apply, hx]
  rfl

end Cert.MixerIdeal.Block

end
-- ==== Proof.MixerValue.lean ====
/-
  The mixer's result array: what each grid point writes back is its block of one whole-array function, which at graph
  `g` is `Cert.Spec.out` of the graph's arrays as the kernel finds them; the blocks cover the array.
-/
module

public import proofs.«01_k».proof.Proof.Gen.MixerIdeal.Value
public import proofs.«01_k».proof.Proof.MixerBlock

@[expose] public section

set_option maxRecDepth 16384

noncomputable section

open Idealize.ShloMosaic Idealize.ShloMosaic.TcCoe Idealize.SL.Sem
open Idealize.ShloMosaic.Pipeline (Dat)

namespace Cert.MixerIdeal.Whole

open Cert.MixerIdeal Cert.MixerIdeal.Gen Cert.MixerIdeal.Block

variable (m : (ℓ : Loc nD τ sig) → Buf (Elt Ideal) ℓ) (ρ : Dev nD → PrngReg)

/-- The result at graph `g`, node `i`, feature `k`, of the arrays as the kernel finds them. -/
def Gat (c : Dev nD) (g : Fin 8192) (i : Fin 19) (k : Fin 64) : EReal :=
  Spec.out (fun n d => (V m c main_v1 : S8192x19x64.Idx → EReal) (ix3 g n d))
    (fun n j => (V m c main_v2 : S8192x19x19.Idx → EReal) (ix3 g n j))
    (fun n j => (V m c main_arg2 : S8192x19x16.Idx → EReal) (ix3 g n j))
    ((V m c main_arg3 : S1x1.Idx → EReal) (ix2 0 0)) ((V m c main_v3 : S1x1.Idx → EReal) (ix2 0 0))
    (fun o d => (V m c main_arg5 : S64x80.Idx → EReal) (ix2 o d)) (fun o => (V m c main_v4 : S1x64.Idx → EReal) (ix2 0 o))
    (fun o d => (V m c main_arg7 : S64x64.Idx → EReal) (ix2 o d)) (fun o => (V m c main_v5 : S1x64.Idx → EReal) (ix2 0 o))
    (fun o => (V m c main_v6 : S1x64.Idx → EReal) (ix2 0 o)) (fun o => (V m c main_v7 : S1x64.Idx → EReal) (ix2 0 o))
    (fun o => (V m c main_v8 : S1x64.Idx → EReal) (ix2 0 o)) (fun o => (V m c main_v9 : S1x64.Idx → EReal) (ix2 0 o)) i k

/-- The whole result array. -/
def G (c : Dev nD) : Buf (Elt Ideal) ((c : Thread nD τ).loc main_v10) := fun (y : S8192x19x64.Idx) => Gat m c (y 0) (y 1) (y 2)

theorem hz3 : (![0, 0, 0] : Fin 3 → Nat) = fun _ => 0 := funext fun a => by fin_cases a <;> rfl
theorem hz2 : (![0, 0] : Fin 2 → Nat) = fun _ => 0 := funext fun a => by fin_cases a <;> rfl

/-- Grid point `t`'s graph `g` is graph `128 t + g` of the array. -/
def row (t : Fin cfg0.N) (g : Fin 128) : Fin 8192 := ⟨t.val * 128 + g.val, by
  have h1 := t.isLt; have h2 := g.isLt
  have hN : cfg0.N = 64 := N_0
  omega⟩

/-- The block indices of the tiled windows, decided over the grid. -/
theorem idx_facts : ∀ t : Fin cfg0.N,
    win0_0.index t = ![t.val, 0, 0] ∧ win0_1.index t = ![t.val, 0, 0] ∧ win0_2.index t = ![t.val, 0, 0]
    ∧ win0_13.index t = ![t.val, 0, 0] :=
  (by decide +kernel : ∀ t : Fin grid0.N, win0_0.index t = ![t.val, 0, 0] ∧ win0_1.index t = ![t.val, 0, 0]
    ∧ win0_2.index t = ![t.val, 0, 0] ∧ win0_13.index t = ![t.val, 0, 0])

/-- The block of the features at point `t`. -/
theorem iblk0_apply (c : Dev nD) (t : Fin cfg0.N) (g : Fin 128) (n : Fin 19) (d : Fin 64) :
    (iblk m c 0 t : S128x19x64.Idx → EReal) (ix3 g n d) = (V m c main_v1 : S8192x19x64.Idx → EReal) (ix3 (row t g) n d) := by
  have h := (idx_facts t).1
  refine congrArg (V m c main_v1 : S8192x19x64.Idx → EReal) (funext fun a => Fin.ext ?_)
  match a with
  | ⟨0, _⟩ => show win0_0.index t 0 * 128 + 1 * g.val = _; rw [h]; show t.val * 128 + 1 * g.val = t.val * 128 + g.val; omega
  | ⟨1, _⟩ => show win0_0.index t 1 * 19 + 1 * n.val = _; rw [h]; show 0 * 19 + 1 * n.val = n.val; omega
  | ⟨2, _⟩ => show win0_0.index t 2 * 64 + 1 * d.val = _; rw [h]; show 0 * 64 + 1 * d.val = d.val; omega

/-- The block of the adjacency at point `t`. -/
theorem iblk1_apply (c : Dev nD) (t : Fin cfg0.N) (g : Fin 128) (n : Fin 19) (d : Fin 19) :
    (iblk m c 1 t : S128x19x19.Idx → EReal) (ix3 g n d) = (V m c main_v2 : S8192x19x19.Idx → EReal) (ix3 (row t g) n d) := by
  have h := (idx_facts t).2.1
  refine congrArg (V m c main_v2 : S8192x19x19.Idx → EReal) (funext fun a => Fin.ext ?_)
  match a with
  | ⟨0, _⟩ => show win0_1.index t 0 * 128 + 1 * g.val = _; rw [h]; show t.val * 128 + 1 * g.val = t.val * 128 + g.val; omega
  | ⟨1, _⟩ => show win0_1.index t 1 * 19 + 1 * n.val = _; rw [h]; show 0 * 19 + 1 * n.val = n.val; omega
  | ⟨2, _⟩ => show win0_1.index t 2 * 19 + 1 * d.val = _; rw [h]; show 0 * 19 + 1 * d.val = d.val; omega

/-- The block of the positional encoding at point `t`. -/
theorem iblk2_apply (c : Dev nD) (t : Fin cfg0.N) (g : Fin 128) (n : Fin 19) (d : Fin 16) :
    (iblk m c 2 t : S128x19x16.Idx → EReal) (ix3 g n d) = (V m c main_arg2 : S8192x19x16.Idx → EReal) (ix3 (row t g) n d) := by
  have h := (idx_facts t).2.2.1
  refine congrArg (V m c main_arg2 : S8192x19x16.Idx → EReal) (funext fun a => Fin.ext ?_)
  match a with
  | ⟨0, _⟩ => show win0_2.index t 0 * 128 + 1 * g.val = _; rw [h]; show t.val * 128 + 1 * g.val = t.val * 128 + g.val; omega
  | ⟨1, _⟩ => show win0_2.index t 1 * 19 + 1 * n.val = _; rw [h]; show 0 * 19 + 1 * n.val = n.val; omega
  | ⟨2, _⟩ => show win0_2.index t 2 * 16 + 1 * d.val = _; rw [h]; show 0 * 16 + 1 * d.val = d.val; omega

/-- Window 3's block at every point is its whole array. -/
theorem iblk3_apply (c : Dev nD) (t : Fin cfg0.N) (i : Fin 1) (j : Fin 1) :
    (iblk m c 3 t : S1x1.Idx → EReal) (ix2 i j) = (V m c main_arg3 : S1x1.Idx → EReal) (ix2 i j) := by
  refine congrArg (V m c main_arg3 : S1x1.Idx → EReal) (funext fun a => Fin.ext ?_)
  match a with
  | ⟨0, _⟩ => show 0 * 1 + 1 * i.val = i.val; omega
  | ⟨1, _⟩ => show 0 * 1 + 1 * j.val = j.val; omega

/-- Window 4's block at every point is its whole array. -/
theorem iblk4_apply (c : Dev nD) (t : Fin cfg0.N) (i : Fin 1) (j : Fin 1) :
    (iblk m c 4 t : S1x1.Idx → EReal) (ix2 i j) = (V m c main_v3 : S1x1.Idx → EReal) (ix2 i j) := by
  refine congrArg (V m c main_v3 : S1x1.Idx → EReal) (funext fun a => Fin.ext ?_)
  match a with
  | ⟨0, _⟩ => show 0 * 1 + 1 * i.val = i.val; omega
  | ⟨1, _⟩ => show 0 * 1 + 1 * j.val = j.val; omega

/-- Window 5's block at every point is its whole array. -/
theorem iblk5_apply (c : Dev nD) (t : Fin cfg0.N) (i : Fin 64) (j : Fin 80) :
    (iblk m c 5 t : S64x80.Idx → EReal) (ix2 i j) = (V m c main_arg5 : S64x80.Idx → EReal) (ix2 i j) := by
  refine congrArg (V m c main_arg5 : S64x80.Idx → EReal) (funext fun a => Fin.ext ?_)
  match a with
  | ⟨0, _⟩ => show 0 * 64 + 1 * i.val = i.val; omega
  | ⟨1, _⟩ => show 0 * 80 + 1 * j.val = j.val; omega

/-- Window 6's block at every point is its whole array. -/
theorem iblk6_apply (c : Dev nD) (t : Fin cfg0.N) (i : Fin 1) (j : Fin 64) :
    (iblk m c 6 t : S1x64.Idx → EReal) (ix2 i j) = (V m c main_v4 : S1x64.Idx → EReal) (ix2 i j) := by
  refine congrArg (V m c main_v4 : S1x64.Idx → EReal) (funext fun a => Fin.ext ?_)
  match a with
  | ⟨0, _⟩ => show 0 * 1 + 1 * i.val = i.val; omega
  | ⟨1, _⟩ => show 0 * 64 + 1 * j.val = j.val; omega

/-- Window 7's block at every point is its whole array. -/
theorem iblk7_apply (c : Dev nD) (t : Fin cfg0.N) (i : Fin 64) (j : Fin 64) :
    (iblk m c 7 t : S64x64.Idx → EReal) (ix2 i j) = (V m c main_arg7 : S64x64.Idx → EReal) (ix2 i j) := by
  refine congrArg (V m c main_arg7 : S64x64.Idx → EReal) (funext fun a => Fin.ext ?_)
  match a with
  | ⟨0, _⟩ => show 0 * 64 + 1 * i.val = i.val; omega
  | ⟨1, _⟩ => show 0 * 64 + 1 * j.val = j.val; omega

/-- Window 8's block at every point is its whole array. -/
theorem iblk8_apply (c : Dev nD) (t : Fin cfg0.N) (i : Fin 1) (j : Fin 64) :
    (iblk m c 8 t : S1x64.Idx → EReal) (ix2 i j) = (V m c main_v5 : S1x64.Idx → EReal) (ix2 i j) := by
  refine congrArg (V m c main_v5 : S1x64.Idx → EReal) (funext fun a => Fin.ext ?_)
  match a with
  | ⟨0, _⟩ => show 0 * 1 + 1 * i.val = i.val; omega
  | ⟨1, _⟩ => show 0 * 64 + 1 * j.val = j.val; omega

/-- Window 9's block at every point is its whole array. -/
theorem iblk9_apply (c : Dev nD) (t : Fin cfg0.N) (i : Fin 1) (j : Fin 64) :
    (iblk m c 9 t : S1x64.Idx → EReal) (ix2 i j) = (V m c main_v6 : S1x64.Idx → EReal) (ix2 i j) := by
  refine congrArg (V m c main_v6 : S1x64.Idx → EReal) (funext fun a => Fin.ext ?_)
  match a with
  | ⟨0, _⟩ => show 0 * 1 + 1 * i.val = i.val; omega
  | ⟨1, _⟩ => show 0 * 64 + 1 * j.val = j.val; omega

/-- Window 10's block at every point is its whole array. -/
theorem iblk10_apply (c : Dev nD) (t : Fin cfg0.N) (i : Fin 1) (j : Fin 64) :
    (iblk m c 10 t : S1x64.Idx → EReal) (ix2 i j) = (V m c main_v7 : S1x64.Idx → EReal) (ix2 i j) := by
  refine congrArg (V m c main_v7 : S1x64.Idx → EReal) (funext fun a => Fin.ext ?_)
  match a with
  | ⟨0, _⟩ => show 0 * 1 + 1 * i.val = i.val; omega
  | ⟨1, _⟩ => show 0 * 64 + 1 * j.val = j.val; omega

/-- Window 11's block at every point is its whole array. -/
theorem iblk11_apply (c : Dev nD) (t : Fin cfg0.N) (i : Fin 1) (j : Fin 64) :
    (iblk m c 11 t : S1x64.Idx → EReal) (ix2 i j) = (V m c main_v8 : S1x64.Idx → EReal) (ix2 i j) := by
  refine congrArg (V m c main_v8 : S1x64.Idx → EReal) (funext fun a => Fin.ext ?_)
  match a with
  | ⟨0, _⟩ => show 0 * 1 + 1 * i.val = i.val; omega
  | ⟨1, _⟩ => show 0 * 64 + 1 * j.val = j.val; omega

/-- Window 12's block at every point is its whole array. -/
theorem iblk12_apply (c : Dev nD) (t : Fin cfg0.N) (i : Fin 1) (j : Fin 64) :
    (iblk m c 12 t : S1x64.Idx → EReal) (ix2 i j) = (V m c main_v9 : S1x64.Idx → EReal) (ix2 i j) := by
  refine congrArg (V m c main_v9 : S1x64.Idx → EReal) (funext fun a => Fin.ext ?_)
  match a with
  | ⟨0, _⟩ => show 0 * 1 + 1 * i.val = i.val; omega
  | ⟨1, _⟩ => show 0 * 64 + 1 * j.val = j.val; omega

/-- The body's result at point `t` is what it stores, whole. -/
theorem out_stored (x0 : Vec Ideal S128x19x64 .f32) (x1 : Vec Ideal S128x19x19 .f32) (x2 : Vec Ideal S128x19x16 .f32)
    (x3 x4 : Vec Ideal S1x1 .f32) (x5 : Vec Ideal S64x80 .f32) (x6 : Vec Ideal S1x64 .f32) (x7 : Vec Ideal S64x64 .f32)
    (x8 x9 x10 x11 x12 : Vec Ideal S1x64 .f32) :
    out0_13 x0 x1 x2 x3 x4 x5 x6 x7 x8 x9 x10 x11 x12 = stored x0 x1 x2 x3 x4 x5 x6 x7 x8 x9 x10 x11 x12 := by
  unfold out0_13
  rw [View.canon_unit_zero hz3]
  unfold k0_pay20 k0_pay19 k0_pay18 k0_pay17 k0_pay16 k0_pay15 k0_pay14 stored
  have l0 (x : Vec Ideal S128x19x64 .f32) : View.ld x r0_0 = x := View.ld_unit_zero hz3 _ x
  have l1 (x : Vec Ideal S128x19x19 .f32) : View.ld x r0_1 = x := View.ld_unit_zero hz3 _ x
  have l2 (x : Vec Ideal S128x19x16 .f32) : View.ld x r0_2 = x := View.ld_unit_zero hz3 _ x
  have l3 (x : Vec Ideal S1x1 .f32) : View.ld x r0_3 = x := View.ld_unit_zero hz2 _ x
  have l4 (x : Vec Ideal S64x80 .f32) : View.ld x r0_4 = x := View.ld_unit_zero hz2 _ x
  have l5 (x : Vec Ideal S1x64 .f32) : View.ld x r0_5 = x := View.ld_unit_zero hz2 _ x
  have l6 (x : Vec Ideal S64x64 .f32) : View.ld x r0_6 = x := View.ld_unit_zero hz2 _ x
  simp only [l0, l1, l2, l3, l4, l5, l6]

/-- What the body stores at point `t` is the graph's part of `G`. -/
theorem stored_read (c : Dev nD) (t : Fin cfg0.N) (g : Fin 128) (n : Fin 19) (d : Fin 64) :
    stored (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 g n d)
      = (G m c : S8192x19x64.Idx → EReal) (ix3 (row t g) n d) := by
  rw [stored_apply]
  simp only [iblk0_apply, iblk1_apply, iblk2_apply, iblk3_apply, iblk4_apply, iblk5_apply, iblk6_apply, iblk7_apply, iblk8_apply, iblk9_apply, iblk10_apply, iblk11_apply, iblk12_apply]
  rfl

/-- What point `t` writes back is block `t` of `G`. -/
theorem flushed_eq (c : Dev nD) (t : Fin cfg0.N) :
    (dats m 0 c).flushed 13 t = ((cfg0.win 13).blk t).view.read (Elt Ideal) (G m c) := by
  rw [Value.flushed13, out_stored]
  funext y
  have hy : y = ix3 (y 0) (y 1) (y 2) := eq_ix3 y
  have h := (idx_facts t).2.2.2
  have e0 : (((cfg0.win 13).blk t).view.emb y : S8192x19x64.Idx) = ix3 (row t (y 0)) (y 1) (y 2) := by
    funext a; refine Fin.ext ?_
    match a with
    | ⟨0, _⟩ => show win0_13.index t 0 * 128 + 1 * (y 0).val = _; rw [h]; show t.val * 128 + 1 * (y 0).val = t.val * 128 + (y 0).val; omega
    | ⟨1, _⟩ => show win0_13.index t 1 * 19 + 1 * (y 1).val = _; rw [h]; show 0 * 19 + 1 * (y 1).val = (y 1).val; omega
    | ⟨2, _⟩ => show win0_13.index t 2 * 64 + 1 * (y 2).val = _; rw [h]; show 0 * 64 + 1 * (y 2).val = (y 2).val; omega
  refine Eq.trans (b := stored (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 (y 0) (y 1) (y 2))) ?_ ?_
  · exact congrArg (stored (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) hy
  · refine Eq.trans ?_ (congrArg (G m c) e0).symm
    exact stored_read m c t (y 0) (y 1) (y 2)

/-- An index of the result array is in point `t`'s block when its graph is one of the point's. -/
theorem mem_blk (t : Fin cfg0.N) (i : S8192x19x64.Idx) :
    i ∈ ((cfg0.win 13).blk t).view.set ↔ t.val * 128 ≤ (i 0 : Nat) ∧ (i 0 : Nat) < t.val * 128 + 128 := by
  show i ∈ ((View.whole main_v10).slice (win0_13.rect t)).set ↔ _
  rw [View.set_slice_whole, Rect.mem_set_unit]
  have h := (idx_facts t).2.2.2
  have h1 : (i 1 : Nat) < 19 := (i 1).isLt
  have h2 : (i 2 : Nat) < 64 := (i 2).isLt
  refine ⟨fun hm => ?_, fun hm a => ?_⟩
  · have := hm 0
    change win0_13.index t 0 * 128 ≤ (i 0 : Nat) ∧ (i 0 : Nat) < win0_13.index t 0 * 128 + 128 at this
    rw [h] at this; exact this
  · match a with
    | ⟨0, _⟩ => show win0_13.index t 0 * 128 ≤ (i 0 : Nat) ∧ (i 0 : Nat) < win0_13.index t 0 * 128 + 128; rw [h]; exact hm
    | ⟨1, _⟩ => show win0_13.index t 1 * 19 ≤ (i 1 : Nat) ∧ (i 1 : Nat) < win0_13.index t 1 * 19 + 19; rw [h]; show 0 * 19 ≤ (i 1 : Nat) ∧ (i 1 : Nat) < 0 * 19 + 19; omega
    | ⟨2, _⟩ => show win0_13.index t 2 * 64 ≤ (i 2 : Nat) ∧ (i 2 : Nat) < win0_13.index t 2 * 64 + 64; rw [h]; show 0 * 64 ≤ (i 2 : Nat) ∧ (i 2 : Nat) < 0 * 64 + 64; omega

/-- The result's blocks cover its array. -/
theorem cover (i : S8192x19x64.Idx) :
    ∃ t : Fin cfg0.N, (cfg0.win 13).flush t = true ∧ i ∈ ((cfg0.win 13).blk t).view.set := by
  have h0 : (i 0 : Nat) < 8192 := (i 0).isLt
  have hN : cfg0.N = 64 := N_0
  refine ⟨⟨(i 0).val / 128, by omega⟩, flush0_13 _, ?_⟩
  rw [mem_blk]
  dsimp only
  omega

/-- So the result array ends as `G`. -/
theorem final (c : Dev nD) : (dats m 0 c).arrAt 13 cfg0.N = G m c :=
  (dats m 0 c).arrAt_eq_of_cover 13 (G m c) (fun t _ => flushed_eq m c t) cover

end Cert.MixerIdeal.Whole

end
-- ==== Proof.MixerReference.lean ====
/-
  What the mixer's reference computes, graph by graph: its result at graph `g` is `Cert.Spec.out` of that graph's arrays.
  Each stage of the reference is read at an index and met with the function of `Spec` that it is; the quotients by a
  square root become the reciprocal roots of `Spec` by `norm_div` and `dinv_div`.
-/
module

public import proofs.«01_k».proof.Proof.Gen.ReferenceIdeal.Read
public import proofs.«01_k».proof.Proof.Spec
public import Idealize.ShloMosaic.Lib.Pointwise

@[expose] public section

set_option maxRecDepth 16384

noncomputable section

open Idealize.ShloMosaic

namespace Cert.ReferenceIdeal.Stages

open Cert.ReferenceIdeal.Read Cert.ReferenceIdeal Cert.Spec

variable (x0 : (⟨S32x19x256x64, .f32⟩ : BufTy).Contents (Elt Ideal)) (x1 : (⟨S32x256x19x19, .f32⟩ : BufTy).Contents (Elt Ideal))
  (x2 : (⟨S8192x19x16, .f32⟩ : BufTy).Contents (Elt Ideal)) (x3 : (⟨S1x1, .f32⟩ : BufTy).Contents (Elt Ideal))
  (x4 : (⟨S1, .f32⟩ : BufTy).Contents (Elt Ideal)) (x5 : (⟨S64x80, .f32⟩ : BufTy).Contents (Elt Ideal))
  (x6 : (⟨S64, .f32⟩ : BufTy).Contents (Elt Ideal)) (x7 : (⟨S64x64, .f32⟩ : BufTy).Contents (Elt Ideal))
  (x8 x9 x10 x11 x12 : (⟨S64, .f32⟩ : BufTy).Contents (Elt Ideal))

/-- An unsigned condition converted to a float: one where it holds, else zero. -/
theorem uitofp_bit (p : Prop) [Decidable p] :
    (FloatOps.uitofp FTy.f32 (BitVec.ofBool (decide p)) : Ideal .f32) = if p then (1 : EReal) else 0 := by
  by_cases h : p
  · rw [if_pos h, decide_eq_true h]
    show ((((1#1 : BitVec 1).toNat : ℕ) : ℝ) : EReal) = 1
    simp
  · rw [if_neg h, decide_eq_false h]
    show ((((0#1 : BitVec 1).toNat : ℕ) : ℝ) : EReal) = 0
    simp

/-- The mask at an edge. -/
theorem mask_apply (g : Fin 8192) (i j : Fin 19) :
    val_main_v5 x1 (ix3 g i j) = mask (val_main_v2 x1 (ix3 g i j)) := by
  pointwise [val_main_v5, val_main_v4, val_main_v3, val_main_cst]
  exact uitofp_bit _

/-- The masked softplus. -/
theorem edge_apply (g : Fin 8192) (i j : Fin 19) :
    val_main_v13 x1 x3 x4 (ix3 g i j) = softplus (val_main_v2 x1 (ix3 g i j) * x3 (ix2 0 0) + x4 (ix1 0)) * mask (val_main_v2 x1 (ix3 g i j)) := by
  rw [← mask_apply]
  pointwise [val_main_v13, val_main_v12, val_main_call0_v4, val_main_call0_v3, val_main_call0_v2, val_main_call0_v6, val_main_call0_v5, val_main_call0_v11, val_main_call0_v1, val_main_call0_v0, val_main_call0_v10, val_main_call0_v9, val_main_call0_v8, val_main_call0_v7, val_main_v11, val_main_v10, val_main_v9, val_main_v8, val_main_v7, val_main_v6, val_main_call0_cst]
  rw [if_neg (by simp), Ideal.absf_def]
  rfl

/-- The identity matrix. -/
theorem eye_apply (i j : Fin 19) : val_main_v19 (F := Ideal) (ix2 i j) = delta i j := by
  pointwise [val_main_v19, val_main_v18, val_main_v17, val_main_v16, val_main_v15, val_main_v14, val_main_c]
  have h : IntOp.cmpi CmpIPredicate.eq (IntOp.addi (BitVec.ofNat 32 ↑i) 0#32) (BitVec.ofNat 32 ↑j)
      = BitVec.ofBool (decide (i = j)) := by
    revert i j; decide +kernel
  rw [h]; exact uitofp_bit _

/-- The start indices of the diagonal: row `i` is `(i, i)`. -/
theorem starts_apply (i : Fin 19) (k : Fin 2) : val_main_call1_v14 (F := Ideal) (ix2 i k) = BitVec.ofNat 32 i.val := by
  revert i k; decide +kernel

/-- The diagonal. -/
theorem diag_apply (g : Fin 8192) (i : Fin 19) :
    val_main_v20 x1 (ix2 g i) = mask (val_main_v2 x1 (ix3 g i i)) := by
  have hi : ∀ i : Fin 19, min (BitVec.ofNat 32 i.val).toInt.toNat 18 = i.val := by decide
  rw [← mask_apply]
  unfold val_main_v20 Host.gather
  congr 1
  funext a
  refine Fin.ext ?_
  show GatherDims.start _ _ _ _ + GatherDims.batchCoord _ _ _ + GatherDims.offCoord _ _ _ = _
  rw [GatherDims.batchCoord_eq_zero _ _ _ List.not_mem_nil, Nat.add_zero]
  match a with
  | ⟨0, _⟩ =>
    show gather_S8192x19x19_S19x2_S8192x19_0_12_n_n_12_1_819211.start (ix2 g i) val_main_call1_v14 (0 : Fin 3) + gather_S8192x19x19_S19x2_S8192x19_0_12_n_n_12_1_819211.offCoord (ix2 g i) (0 : Fin 3) = g.val
    unfold GatherDims.start
    rw [dif_neg (show (0 : Fin 3) ∉ gather_S8192x19x19_S19x2_S8192x19_0_12_n_n_12_1_819211.startIndexMap by decide), Nat.zero_add]
    rfl
  | ⟨1, _⟩ =>
    show gather_S8192x19x19_S19x2_S8192x19_0_12_n_n_12_1_819211.start (ix2 g i) val_main_call1_v14 (1 : Fin 3) + gather_S8192x19x19_S19x2_S8192x19_0_12_n_n_12_1_819211.offCoord (ix2 g i) (1 : Fin 3) = i.val
    rw [GatherDims.offCoord_eq_zero _ _ _ (show (1 : Fin 3) ∉ gather_S8192x19x19_S19x2_S8192x19_0_12_n_n_12_1_819211.sKept by decide), Nat.add_zero]
    unfold GatherDims.start
    rw [dif_pos (show (1 : Fin 3) ∈ gather_S8192x19x19_S19x2_S8192x19_0_12_n_n_12_1_819211.startIndexMap by decide)]
    refine Eq.trans ?_ (hi i)
    rw [← starts_apply i 0]
    congr 4
    funext b; refine Fin.ext ?_
    match b with
    | ⟨0, _⟩ => rfl
    | ⟨1, _⟩ => rfl
  | ⟨2, _⟩ =>
    show gather_S8192x19x19_S19x2_S8192x19_0_12_n_n_12_1_819211.start (ix2 g i) val_main_call1_v14 (2 : Fin 3) + gather_S8192x19x19_S19x2_S8192x19_0_12_n_n_12_1_819211.offCoord (ix2 g i) (2 : Fin 3) = i.val
    rw [GatherDims.offCoord_eq_zero _ _ _ (show (2 : Fin 3) ∉ gather_S8192x19x19_S19x2_S8192x19_0_12_n_n_12_1_819211.sKept by decide), Nat.add_zero]
    unfold GatherDims.start
    rw [dif_pos (show (2 : Fin 3) ∈ gather_S8192x19x19_S19x2_S8192x19_0_12_n_n_12_1_819211.startIndexMap by decide)]
    refine Eq.trans ?_ (hi i)
    rw [← starts_apply i 1]
    congr 4
    funext b; refine Fin.ext ?_
    match b with
    | ⟨0, _⟩ => rfl
    | ⟨1, _⟩ => rfl

/-- The edge weights with the missing self loops added. -/
theorem weight_apply (g : Fin 8192) (i j : Fin 19) :
    val_main_v28 x1 x3 x4 (ix3 g i j) = weight (fun i j => val_main_v2 x1 (ix3 g i j)) (x3 (ix2 0 0)) (x4 (ix1 0)) i j := by
  unfold weight
  rw [← edge_apply, ← diag_apply, ← eye_apply]
  pointwise [val_main_v28, val_main_v27, val_main_v26, val_main_v25, val_main_v24, val_main_v23, val_main_v22, val_main_v21, val_main_cst_0]

/-- The normalised adjacency, which the reference holds transposed. -/
theorem anorm_apply (g : Fin 8192) (i j : Fin 19) :
    val_main_v42 x1 x3 x4 (ix3 g j i) = anorm (fun i j => val_main_v2 x1 (ix3 g i j)) (x3 (ix2 0 0)) (x4 (ix1 0)) i j := by
  unfold anorm
  simp only [dinv_div]
  unfold deg
  simp only [← weight_apply]
  pointwise [val_main_v42, val_main_v41, val_main_v40, val_main_v39, val_main_v38, val_main_v37, val_main_v36, val_main_v35, val_main_v34, val_main_v33, val_main_v32, val_main_v31, val_main_v30, val_main_v29, val_main_cst_1, val_main_cst_2, val_main_cst_3, val_main_call2_v1, val_main_call2_v0, val_main_cst_4]
  have h0 : constant (F := Ideal) S_ .f32 0#32 ix0 = (0 : EReal) := Ideal.ofBits_zero_f32
  simp only [id_eq, h0]

/-- Zero converted to a float. -/
theorem sitofp_zero' : (FloatOps.sitofp FTy.f32 0#32 : Ideal .f32) = (0 : EReal) := by
  show ((((0#32 : BitVec 32).toInt : ℤ) : ℝ) : EReal) = 0
  simp

/-- The width of a row is positive. -/
theorem width_pos : 0 < width := by rw [width_eq]; exact_mod_cast (by norm_num : (0 : ℝ) < 64)

/-- The first convolution. -/
theorem ssg0_apply (g : Fin 8192) (n : Fin 19) (o : Fin 64) :
    val_main_v58 x0 x1 x2 x3 x4 x5 x6 (ix3 g n o)
      = ssg (fun i j => val_main_v42 x1 x3 x4 (ix3 g j i)) (withPe (fun n d => val_main_v1 x0 (ix3 g n d)) (fun n d => x2 (ix3 g n d)))
        (fun o d => x5 (ix2 o d)) (fun o => x6 (ix1 o)) n o := by
  unfold ssg mixed hop withPe
  pointwise [val_main_v58, val_main_v57, val_main_v56, val_main_v55, val_main_v54, val_main_v53, val_main_v52, val_main_v51, val_main_v50, val_main_v49, val_main_v48, val_main_v47, val_main_v46, val_main_v45, val_main_v44, val_main_v43, val_main_cst_5, val_main_cst_6, val_main_cst_7]

/-- The second convolution. -/
theorem ssg1_apply (g : Fin 8192) (n : Fin 19) (o : Fin 64) :
    val_main_v91 x0 x1 x2 x3 x4 x5 x6 x7 x8 x9 x10 (ix3 g n o)
      = ssg (fun i j => val_main_v42 x1 x3 x4 (ix3 g j i)) (fun n d => val_main_v76 x0 x1 x2 x3 x4 x5 x6 x9 x10 (ix3 g n d))
        (fun o d => x7 (ix2 o d)) (fun o => x8 (ix1 o)) n o := by
  unfold ssg mixed hop
  pointwise [val_main_v91, val_main_v90, val_main_v89, val_main_v88, val_main_v87, val_main_v86, val_main_v85, val_main_v84, val_main_v83, val_main_v82, val_main_v81, val_main_v80, val_main_v79, val_main_v78, val_main_v77, val_main_cst_12, val_main_cst_13, val_main_cst_14]

/-- The first layer norm. -/
theorem norm0_apply (g : Fin 8192) (n : Fin 19) (o : Fin 64) :
    val_main_v76 x0 x1 x2 x3 x4 x5 x6 x9 x10 (ix3 g n o)
      = Spec.norm (fun d => val_main_v58 x0 x1 x2 x3 x4 x5 x6 (ix3 g n d)) (fun d => x9 (ix1 d)) (fun d => x10 (ix1 d)) o := by
  rw [norm_div]
  unfold var mean
  pointwise [val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_cst_8, val_main_cst_9, val_main_cst_11, val_main_c_10, val_main_call3_cst, val_main_call3_v0, val_main_call3_v1, val_main_call3_cst_0, val_main_call3_v2, val_main_call3_v3, val_main_call3_v4, val_main_call3_v5, val_main_call3_v6, val_main_call3_v7, val_main_call3_cst_1, val_main_call3_v8, val_main_call3_cst_2, val_main_call3_v9, val_main_call3_v10, val_main_call3_v11, val_main_call3_v12, val_main_call3_cst_3, val_main_call3_v13, val_main_call3_cst_4, val_main_call3_call0_v0, val_main_call3_call0_v1]
  simp only [sitofp_zero', sub_zero, if_pos width_pos]

/-- The second layer norm. -/
theorem norm1_apply (g : Fin 8192) (n : Fin 19) (o : Fin 64) :
    val_main_v109 x0 x1 x2 x3 x4 x5 x6 x7 x8 x9 x10 x11 x12 (ix3 g n o)
      = Spec.norm (fun d => val_main_v91 x0 x1 x2 x3 x4 x5 x6 x7 x8 x9 x10 (ix3 g n d)) (fun d => x11 (ix1 d)) (fun d => x12 (ix1 d)) o := by
  rw [norm_div]
  unfold var mean
  pointwise [val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_cst_15, val_main_cst_16, val_main_cst_18, val_main_c_17, val_main_call4_cst, val_main_call4_v0, val_main_call4_v1, val_main_call4_cst_0, val_main_call4_v2, val_main_call4_v3, val_main_call4_v4, val_main_call4_v5, val_main_call4_v6, val_main_call4_v7, val_main_call4_cst_1, val_main_call4_v8, val_main_call4_cst_2, val_main_call4_v9, val_main_call4_v10, val_main_call4_v11, val_main_call4_v12, val_main_call4_cst_3, val_main_call4_v13, val_main_call4_cst_4, val_main_call4_call0_v0, val_main_call4_call0_v1]
  simp only [sitofp_zero', sub_zero, if_pos width_pos]

/-- The reference's result at graph `g`, node `n`, feature `d`: `Spec.out` of the graph's arrays. -/
theorem result_apply (g : Fin 8192) (n : Fin 19) (d : Fin 64) :
    val_main_v110 x0 x1 x2 x3 x4 x5 x6 x7 x8 x9 x10 x11 x12 (ix3 g n d)
      = out (fun n d => val_main_v1 x0 (ix3 g n d)) (fun i j => val_main_v2 x1 (ix3 g i j)) (fun n k => x2 (ix3 g n k))
          (x3 (ix2 0 0)) (x4 (ix1 0)) (fun o d => x5 (ix2 o d)) (fun o => x6 (ix1 o)) (fun o d => x7 (ix2 o d))
          (fun o => x8 (ix1 o)) (fun o => x9 (ix1 o)) (fun o => x10 (ix1 o)) (fun o => x11 (ix1 o)) (fun o => x12 (ix1 o)) n d := by
  rw [val_main_v110_apply, norm1_apply]
  simp only [ssg1_apply, norm0_apply, ssg0_apply, anorm_apply]
  rfl

end Cert.ReferenceIdeal.Stages

end
-- ==== Proof.MixerClaims.lean ====
/-
  The mixer's value claim: the kernel's result array and the reference's are both `Cert.Spec.out` of the same arrays,
  graph by graph; and the frames of the mixer and of its reference.
-/
module

public import proofs.«01_k».proof.Defs
public import proofs.«01_k».proof.Proof.MixerValue
public import proofs.«01_k».proof.Proof.MixerReference
public import proofs.«01_k».proof.Proof.Gen.Mixer.Frame
public import proofs.«01_k».proof.Proof.Gen.ReferenceIdeal.Run
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.MixerIdeal.Whole

open Cert.MixerIdeal Cert.MixerIdeal.Gen Cert.ReferenceIdeal.Stages

variable (m : (ℓ : Loc nD τ sig) → Buf (Elt Ideal) ℓ)

/-- The features as the kernel finds them: transposed and laid out by graphs, as the reference lays them out. -/
theorem entry_features (c : Dev nD) : (V m c main_v1 : S8192x19x64.Idx → EReal)
    = Cert.ReferenceIdeal.Read.val_main_v1 (F := Ideal) (m ((c : Thread nD τ).loc main_arg0)) := by
  entry_read
  rfl

/-- The adjacency as the kernel finds it: laid out by graphs, as the reference lays it out. -/
theorem entry_adjacency (c : Dev nD) : (V m c main_v2 : S8192x19x19.Idx → EReal)
    = Cert.ReferenceIdeal.Read.val_main_v2 (F := Ideal) (m ((c : Thread nD τ).loc main_arg1)) := by
  entry_read
  rfl

/-- The offset of the edge weights as the kernel finds it. -/
theorem entry_be (c : Dev nD) : (V m c main_v3 : S1x1.Idx → EReal) (ix2 0 0)
    = (m ((c : Thread nD τ).loc main_arg4) : S1.Idx → EReal) (ix1 0) := by
  entry_read
  pointwise []

/-- A row of 64 as the kernel finds it: argument `main_arg6`. -/
theorem entry_main_v4 (c : Dev nD) (o : Fin 64) : (V m c main_v4 : S1x64.Idx → EReal) (ix2 0 o)
    = (m ((c : Thread nD τ).loc main_arg6) : S64.Idx → EReal) (ix1 o) := by
  entry_read
  pointwise []

/-- A row of 64 as the kernel finds it: argument `main_arg8`. -/
theorem entry_main_v5 (c : Dev nD) (o : Fin 64) : (V m c main_v5 : S1x64.Idx → EReal) (ix2 0 o)
    = (m ((c : Thread nD τ).loc main_arg8) : S64.Idx → EReal) (ix1 o) := by
  entry_read
  pointwise []

/-- A row of 64 as the kernel finds it: argument `main_arg9`. -/
theorem entry_main_v6 (c : Dev nD) (o : Fin 64) : (V m c main_v6 : S1x64.Idx → EReal) (ix2 0 o)
    = (m ((c : Thread nD τ).loc main_arg9) : S64.Idx → EReal) (ix1 o) := by
  entry_read
  pointwise []

/-- A row of 64 as the kernel finds it: argument `main_arg10`. -/
theorem entry_main_v7 (c : Dev nD) (o : Fin 64) : (V m c main_v7 : S1x64.Idx → EReal) (ix2 0 o)
    = (m ((c : Thread nD τ).loc main_arg10) : S64.Idx → EReal) (ix1 o) := by
  entry_read
  pointwise []

/-- A row of 64 as the kernel finds it: argument `main_arg11`. -/
theorem entry_main_v8 (c : Dev nD) (o : Fin 64) : (V m c main_v8 : S1x64.Idx → EReal) (ix2 0 o)
    = (m ((c : Thread nD τ).loc main_arg11) : S64.Idx → EReal) (ix1 o) := by
  entry_read
  pointwise []

/-- A row of 64 as the kernel finds it: argument `main_arg12`. -/
theorem entry_main_v9 (c : Dev nD) (o : Fin 64) : (V m c main_v9 : S1x64.Idx → EReal) (ix2 0 o)
    = (m ((c : Thread nD τ).loc main_arg12) : S64.Idx → EReal) (ix1 o) := by
  entry_read
  pointwise []

/-- The result at an index is the reference's `Spec.out`. -/
theorem Gat_eq (c : Dev nD) (g : Fin 8192) (n : Fin 19) (d : Fin 64) : Gat m c g n d
    = Cert.Spec.out (fun n d => Cert.ReferenceIdeal.Read.val_main_v1 (F := Ideal) (m ((c : Thread nD τ).loc main_arg0)) (ix3 g n d))
        (fun i j => Cert.ReferenceIdeal.Read.val_main_v2 (F := Ideal) (m ((c : Thread nD τ).loc main_arg1)) (ix3 g i j))
        (fun n k => (m ((c : Thread nD τ).loc main_arg2) : S8192x19x16.Idx → EReal) (ix3 g n k))
        ((m ((c : Thread nD τ).loc main_arg3) : S1x1.Idx → EReal) (ix2 0 0)) ((m ((c : Thread nD τ).loc main_arg4) : S1.Idx → EReal) (ix1 0))
        (fun o d => (m ((c : Thread nD τ).loc main_arg5) : S64x80.Idx → EReal) (ix2 o d))
        (fun o => (m ((c : Thread nD τ).loc main_arg6) : S64.Idx → EReal) (ix1 o))
        (fun o d => (m ((c : Thread nD τ).loc main_arg7) : S64x64.Idx → EReal) (ix2 o d))
        (fun o => (m ((c : Thread nD τ).loc main_arg8) : S64.Idx → EReal) (ix1 o))
        (fun o => (m ((c : Thread nD τ).loc main_arg9) : S64.Idx → EReal) (ix1 o))
        (fun o => (m ((c : Thread nD τ).loc main_arg10) : S64.Idx → EReal) (ix1 o))
        (fun o => (m ((c : Thread nD τ).loc main_arg11) : S64.Idx → EReal) (ix1 o))
        (fun o => (m ((c : Thread nD τ).loc main_arg12) : S64.Idx → EReal) (ix1 o)) n d := by
  unfold Gat
  exact Spec.out_congr (fun n d => congrFun (entry_features m c) (ix3 g n d)) (fun i j => congrFun (entry_adjacency m c) (ix3 g i j))
    (fun n k => congrFun (V_main_arg2 m c) (ix3 g n k)) (congrFun (V_main_arg3 m c) (ix2 0 0)) (entry_be m c)
    (fun o d => congrFun (V_main_arg5 m c) (ix2 o d)) (entry_main_v4 m c) (fun o d => congrFun (V_main_arg7 m c) (ix2 o d))
    (entry_main_v5 m c) (entry_main_v6 m c) (entry_main_v7 m c) (entry_main_v8 m c) (entry_main_v9 m c) n d

/-- The whole result array is the reference's. -/
theorem G_eq (c : Dev nD) : (G m c : S8192x19x64.Idx → EReal)
    = Cert.ReferenceIdeal.Read.val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  funext y
  refine Eq.trans ?_ ((congrArg _ (eq_ix3 y)).trans (result_apply _ _ _ _ _ _ _ _ _ _ _ _ _ (y 0) (y 1) (y 2))).symm
  exact Gat_eq m c (y 0) (y 1) (y 2)

end Cert.MixerIdeal.Whole

namespace Cert.Proof.MixerClaims

/-- The frame of the reference: its run leaves its arguments; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's and the reference's result arrays are equal, element by element. -/
theorem algebraic : Cert.algebraic_MixerIdeal_ReferenceIdeal := by
  intro m ρ m' ρ' _ hagree
  refine ⟨fun c => Cert.MixerIdeal.Whole.G m c, ?_, ?_⟩
  · exact (θ_run Cert.MixerIdeal.defs _ _).mono (fun _ h c => ⟨(h c).1.trans (Cert.MixerIdeal.Whole.final m c), (h c).2⟩)
      (Cert.MixerIdeal.Value.run_blocks (F := Ideal) m ρ)
  · refine (θ_run Cert.ReferenceIdeal.defs _ _).mono (fun _ h c => ⟨?_, (h c).2⟩) (Cert.ReferenceIdeal.Value.run (F := Ideal) m' ρ')
    refine ((h c).1.trans (Cert.ReferenceIdeal.Read.val_main_v110_eq (StableHlo.launchContents m' c))).trans ?_
    refine Eq.trans ?_ (Cert.MixerIdeal.Whole.G_eq m c).symm
    obtain ⟨h0, h1, h2, h3, h4, h5, h6, h7, h8, h9, h10, h11, h12⟩ := hagree c
    show Cert.ReferenceIdeal.Read.val_main_v110 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) = _
    rw [h0, h1, h2, h3, h4, h5, h6, h7, h8, h9, h10, h11, h12]

end Cert.Proof.MixerClaims

end
-- ==== Proof.Jacobi.lean ====
/-
  Plane rotations of a real matrix: many disjoint planes at once, or one plane at a time. A matrix with the players of a
  tournament as its rows is turned, in a round, in the plane of every game of the round; turning the planes one after the
  other gives the same. The diagonal, the symmetry and the sum of squares of the turned matrix.
-/
module

public import Idealize.ShloMosaic.Lib.Pointwise

@[expose] public section

noncomputable section

namespace Cert.Jacobi

/-- A square matrix of 20 rows: 19 players and the bye. -/
abbrev Mat : Type := Fin 20 → Fin 20 → ℝ

/-! ## The tournament -/

/-- The opponent of player `i` in round `r`. -/
def rival (r : Fin 19) (i : Fin 20) : Fin 20 :=
  let first := if r.val = 0 then 19 else r.val
  ⟨if i.val = 0 then first else if i.val = first then 0 else (2 * r.val + 37 - i.val) % 19 + 1, by
    have := r.isLt
    dsimp only [first]
    split_ifs <;> omega⟩

/-- One player of game `k` of round `r`. -/
def one (r k : Nat) : Nat := if k = 0 then 0 else 1 + (r + 18 + k) % 19

/-- The other player of game `k` of round `r`. -/
def other (r k : Nat) : Nat := 1 + (r + 18 - k) % 19

/-- The lower player of game `k` of round `r`. -/
def low (r : Fin 19) (k : Fin 10) : Fin 20 := ⟨min (one r k) (other r k), by unfold one other; split_ifs <;> omega⟩

/-- The higher player of game `k` of round `r`. -/
def high (r : Fin 19) (k : Fin 10) : Fin 20 := ⟨max (one r k) (other r k), by unfold one other; split_ifs <;> omega⟩

/-- The game that player `i` plays in round `r`. -/
def game (r : Fin 19) (i : Fin 20) : Nat :=
  if i.val = 0 ∨ rival r i = 0 then 0 else min ((i.val + 19 - r.val) % 19) (19 - (i.val + 19 - r.val) % 19)

theorem rival_rival : ∀ (r : Fin 19) (i : Fin 20), rival r (rival r i) = i := by decide +kernel
theorem rival_ne : ∀ (r : Fin 19) (i : Fin 20), rival r i ≠ i := by decide +kernel
theorem low_lt_high : ∀ (r : Fin 19) (k : Fin 10), low r k < high r k := by decide +kernel
theorem rival_low : ∀ (r : Fin 19) (k : Fin 10), rival r (low r k) = high r k := by decide +kernel
theorem rival_high : ∀ (r : Fin 19) (k : Fin 10), rival r (high r k) = low r k := by decide +kernel
theorem game_eq_iff : ∀ (r : Fin 19) (i : Fin 20) (k : Fin 10), game r i = k.val ↔ i = low r k ∨ i = high r k := by
  decide +kernel
theorem game_lt : ∀ (r : Fin 19) (i : Fin 20), game r i < 10 := by decide +kernel

/-! ## Turning planes -/

/-- The matrix turned on both sides in the planes of `i` and `σ i`, by cosines `c` and sines `s`. -/
def turn (σ : Fin 20 → Fin 20) (c s : Fin 20 → ℝ) (A : Mat) : Mat := fun i j =>
  c j * (c i * A i j - s i * A (σ i) j) - s j * (c i * A i (σ j) - s i * A (σ i) (σ j))

/-- The matrix turned on the right. -/
def turnRight (σ : Fin 20 → Fin 20) (c s : Fin 20 → ℝ) (V : Mat) : Mat := fun i j => c j * V i j - s j * V i (σ j)

/-- Turning twice, each row by one of the two. -/
theorem turn_turn (σ : Fin 20 → Fin 20) (c s c' s' c'' s'' : Fin 20 → ℝ) (A : Mat)
    (h : ∀ i, (c' i = 1 ∧ s' i = 0 ∧ c'' i = c i ∧ s'' i = s i)
      ∨ (c i = 1 ∧ s i = 0 ∧ c (σ i) = 1 ∧ s (σ i) = 0 ∧ c'' i = c' i ∧ s'' i = s' i)) :
    turn σ c' s' (turn σ c s A) = turn σ c'' s'' A := by
  funext i j
  unfold turn
  rcases h i with ⟨h1, h2, h3, h4⟩ | ⟨h1, h2, h3, h4, h5, h6⟩ <;>
  rcases h j with ⟨g1, g2, g3, g4⟩ | ⟨g1, g2, g3, g4, g5, g6⟩ <;>
  simp only [*] <;> ring

theorem turnRight_turnRight (σ : Fin 20 → Fin 20) (c s c' s' c'' s'' : Fin 20 → ℝ) (V : Mat)
    (h : ∀ i, (c' i = 1 ∧ s' i = 0 ∧ c'' i = c i ∧ s'' i = s i)
      ∨ (c i = 1 ∧ s i = 0 ∧ c (σ i) = 1 ∧ s (σ i) = 0 ∧ c'' i = c' i ∧ s'' i = s' i)) :
    turnRight σ c' s' (turnRight σ c s V) = turnRight σ c'' s'' V := by
  funext i j
  unfold turnRight
  rcases h j with ⟨g1, g2, g3, g4⟩ | ⟨g1, g2, g3, g4, g5, g6⟩ <;>
  simp only [*] <;> ring

theorem turn_symm (σ : Fin 20 → Fin 20) (c s : Fin 20 → ℝ) (A : Mat) (hA : ∀ i j, A i j = A j i) (i j : Fin 20) :
    turn σ c s A i j = turn σ c s A j i := by
  unfold turn
  rw [hA i j, hA (σ i) j, hA i (σ j), hA (σ i) (σ j)]
  ring

/-- The sum of squares does not change. -/
theorem turn_sumSq (σ : Fin 20 → Fin 20) (c s : Fin 20 → ℝ) (A : Mat) (hσ : ∀ i, σ (σ i) = i)
    (hc : ∀ i, c (σ i) = c i) (hs : ∀ i, s (σ i) = - s i) (h1 : ∀ i, c i ^ 2 + s i ^ 2 = 1) :
    ∑ i, ∑ j, turn σ c s A i j ^ 2 = ∑ i, ∑ j, A i j ^ 2 := by
  let e : Fin 20 ≃ Fin 20 := ⟨σ, σ, hσ, hσ⟩
  have key : ∀ f : Fin 20 → ℝ, ∑ i, (c i * f i - s i * f (σ i)) ^ 2 = ∑ i, f i ^ 2 := fun f => by
    have hx : ∑ i, c i * s i * f i * f (σ i) = 0 := by
      have := Equiv.sum_comp e fun i => c i * s i * f i * f (σ i)
      have h2 : ∀ i, c (e i) * s (e i) * f (e i) * f (σ (e i)) = - (c i * s i * f i * f (σ i)) := fun i => by
        show c (σ i) * s (σ i) * f (σ i) * f (σ (σ i)) = _
        rw [hc, hs, hσ]; ring
      simp only [h2, Finset.sum_neg_distrib] at this
      linarith
    have hy : ∑ i, s i ^ 2 * f (σ i) ^ 2 = ∑ i, s i ^ 2 * f i ^ 2 := by
      rw [← Equiv.sum_comp e fun i => s i ^ 2 * f i ^ 2]
      refine Finset.sum_congr rfl fun i _ => ?_
      show _ = s (σ i) ^ 2 * f (σ i) ^ 2
      rw [hs]; ring
    calc ∑ i, (c i * f i - s i * f (σ i)) ^ 2
        = ∑ i, c i ^ 2 * f i ^ 2 - 2 * ∑ i, c i * s i * f i * f (σ i) + ∑ i, s i ^ 2 * f (σ i) ^ 2 := by
          rw [Finset.mul_sum, ← Finset.sum_sub_distrib, ← Finset.sum_add_distrib]
          exact Finset.sum_congr rfl fun i _ => by ring
      _ = ∑ i, (c i ^ 2 + s i ^ 2) * f i ^ 2 := by
          rw [hx, hy, mul_zero, sub_zero, ← Finset.sum_add_distrib]
          exact Finset.sum_congr rfl fun i _ => by ring
      _ = _ := by simp only [h1, one_mul]
  calc ∑ i, ∑ j, turn σ c s A i j ^ 2
      = ∑ i, ∑ j, (c i * A i j - s i * A (σ i) j) ^ 2 :=
        Finset.sum_congr rfl fun i _ => key fun j => c i * A i j - s i * A (σ i) j
    _ = ∑ j, ∑ i, (c i * A i j - s i * A (σ i) j) ^ 2 := Finset.sum_comm
    _ = ∑ j, ∑ i, A i j ^ 2 := Finset.sum_congr rfl fun j _ => key fun i => A i j
    _ = _ := Finset.sum_comm

/-! ## The angle -/

/-- The tangent of the angle that makes the entry `x` zero, between diagonal entries `a` and `b`. -/
def tan (a x b : ℝ) : ℝ :=
  if x = 0 then 0
  else (if 0 ≤ (b - a) / (2 * x) then 1 else -1)
    / (|(b - a) / (2 * x)| + √((b - a) / (2 * x) * ((b - a) / (2 * x)) + 1))

/-- Its cosine. -/
def cos (t : ℝ) : ℝ := 1 / √(t * t + 1)

theorem tan_zero (a b : ℝ) : tan a 0 b = 0 := if_pos rfl
theorem cos_zero : cos 0 = 1 := by simp [cos]

theorem cos_neg (t : ℝ) : cos (-t) = cos t := by simp [cos]

theorem cos_sq (t : ℝ) : cos t ^ 2 * (1 + t ^ 2) = 1 := by
  have h : 0 < t * t + 1 := by nlinarith [sq_nonneg t]
  have hs : √(t * t + 1) ^ 2 = t * t + 1 := Real.sq_sqrt h.le
  unfold cos
  rw [div_pow, one_pow, hs]
  field_simp
  ring

/-- The equation of the tangent. -/
theorem tan_eq (a x b : ℝ) : x * tan a x b ^ 2 + (b - a) * tan a x b - x = 0 := by
  unfold tan
  split_ifs with hx h
  · rw [hx]; ring
  all_goals
    set θ := (b - a) / (2 * x) with hθ
    have hb : b - a = 2 * x * θ := by rw [hθ]; field_simp
    have hu : √(θ * θ + 1) ^ 2 = θ * θ + 1 := Real.sq_sqrt (by nlinarith [sq_nonneg θ])
    have hu0 : 0 < √(θ * θ + 1) := Real.sqrt_pos.mpr (by nlinarith [sq_nonneg θ])
    rw [hb]
    set u := √(θ * θ + 1)
  · rw [abs_of_nonneg h]
    have hp : θ + u ≠ 0 := by positivity
    field_simp
    linear_combination (-x) * hu
  · have h' : θ < 0 := not_le.mp h
    rw [abs_of_neg h']
    have hp : -θ + u ≠ 0 := by
      have : 0 < -θ := by linarith
      positivity
    field_simp
    linear_combination (-x) * hu

/-- The tangent of a game as its player `i` sees it, with the signs as the kernel chooses them. -/
def tanAt (σ : Fin 20 → Fin 20) (d : Fin 20 → ℝ) (A : Mat) (i : Fin 20) : ℝ :=
  if A i (σ i) = 0 then 0
  else (if 0 < (d (σ i) - d i) / (2 * A i (σ i)) then 1
      else if (d (σ i) - d i) / (2 * A i (σ i)) < 0 then -1 else if i < σ i then 1 else -1)
    / (|(d (σ i) - d i) / (2 * A i (σ i))| + √(1 + (d (σ i) - d i) / (2 * A i (σ i)) * ((d (σ i) - d i) / (2 * A i (σ i)))))

theorem tanAt_low (σ : Fin 20 → Fin 20) (d : Fin 20 → ℝ) (A : Mat) (i : Fin 20) (h : i < σ i) :
    tanAt σ d A i = tan (d i) (A i (σ i)) (d (σ i)) := by
  unfold tanAt tan
  rw [add_comm (1 : ℝ)]
  split_ifs <;> first | rfl | (exfalso; linarith)

theorem tanAt_high (σ : Fin 20 → Fin 20) (d : Fin 20 → ℝ) (A : Mat) (i : Fin 20) (h : σ i < i) (hσ : σ (σ i) = i)
    (hA : A i (σ i) = A (σ i) i) : tanAt σ d A i = - tanAt σ d A (σ i) := by
  unfold tanAt
  rw [hσ, hA]
  have e : (d (σ i) - d i) / (2 * A (σ i) i) = - ((d i - d (σ i)) / (2 * A (σ i) i)) := by rw [← neg_div]; ring
  rw [e]
  set θ := (d i - d (σ i)) / (2 * A (σ i) i)
  have h' : ¬ i < σ i := not_lt.mpr h.le
  rw [abs_neg, neg_mul_neg, if_neg h', if_pos h]
  split_ifs <;> first | (exfalso; linarith) | ring

end Cert.Jacobi

end
-- ==== Proof.EigRound.lean ====
/-
  One round of the first call's sweep as a function of the arrays it carries, written once for every round, and the sweep
  as nineteen of them.
-/
module

public import proofs.«01_k».proof.Proof.Gen.EigIdeal.Loops
public import proofs.«01_k».proof.Proof.Jacobi
public import Idealize.ShloMosaic.Lib.Pointwise

@[expose] public section

set_option maxRecDepth 16384

noncomputable section

open Idealize.ShloMosaic Idealize.SL.Sem

namespace Cert.EigIdeal.Block

open Cert.EigIdeal.Gen Cert.Jacobi

variable {F : FTy → Type} [FloatOps F]

/-- The arrays the sweep carries: the matrices, the vectors, the diagonals. -/
abbrev State (F : FTy → Type) : Type := FVec F S20x20x512 .f32 × FVec F S20x20x512 .f32 × FVec F S20x512 .f32

theorem slices_diag : ∀ p : Fin 20, S20x512.Slices ![p.val, 0] S1x512 := by decide +kernel
theorem slices_row : ∀ p : Fin 20, S20x20x512.Slices ![p.val, 0, 0] S1x20x512 := by decide +kernel
theorem slices_col : ∀ p : Fin 20, S20x20x512.Slices ![0, p.val, 0] S20x1x512 := by decide +kernel

/-- The entries in the order `σ`. -/
def permDiag (σ : Fin 20 → Fin 20) (d : FVec F S20x512 .f32) : FVec F S20x512 .f32 :=
  concatenate S20x512 0 (List.ofFn fun n : Fin 20 => (⟨S1x512, extractStridedSlice S1x512 ![(σ n).val, 0] d (slices_diag (σ n))⟩ : (s : Shape) × (s.Idx → F .f32)))
    concatenates_S1x512_S1x512_S1x512_S1x512_S1x512_S1x512_S1x512_S1x512_S1x512_S1x512_S1x512_S1x512_S1x512_S1x512_S1x512_S1x512_S1x512_S1x512_S1x512_S1x512_S20x512_d0

/-- The rows in the order `σ`. -/
def permRow (σ : Fin 20 → Fin 20) (A : FVec F S20x20x512 .f32) : FVec F S20x20x512 .f32 :=
  concatenate S20x20x512 0 (List.ofFn fun n : Fin 20 => (⟨S1x20x512, extractStridedSlice S1x20x512 ![(σ n).val, 0, 0] A (slices_row (σ n))⟩ : (s : Shape) × (s.Idx → F .f32)))
    concatenates_S1x20x512_S1x20x512_S1x20x512_S1x20x512_S1x20x512_S1x20x512_S1x20x512_S1x20x512_S1x20x512_S1x20x512_S1x20x512_S1x20x512_S1x20x512_S1x20x512_S1x20x512_S1x20x512_S1x20x512_S1x20x512_S1x20x512_S1x20x512_S20x20x512_d0

/-- The columns in the order `σ`. -/
def permCol (σ : Fin 20 → Fin 20) (A : FVec F S20x20x512 .f32) : FVec F S20x20x512 .f32 :=
  concatenate S20x20x512 1 (List.ofFn fun n : Fin 20 => (⟨S20x1x512, extractStridedSlice S20x1x512 ![0, (σ n).val, 0] A (slices_col (σ n))⟩ : (s : Shape) × (s.Idx → F .f32)))
    concatenates_S20x1x512_S20x1x512_S20x1x512_S20x1x512_S20x1x512_S20x1x512_S20x1x512_S20x1x512_S20x1x512_S20x1x512_S20x1x512_S20x1x512_S20x1x512_S20x1x512_S20x1x512_S20x1x512_S20x1x512_S20x1x512_S20x1x512_S20x1x512_S20x20x512_d1

/-- The round's table of games, with a unit axis. -/
def table (pm : Vec F S1x20x20 .f32) : FVec F S20x20x1 .f32 :=
  shapeCast S20x20x1 (shapeCast S20x20 pm shapeCasts_S1x20x20_S20x20) shapeCasts_S20x20_S20x20x1

/-- Every player's entry with the opponent. -/
def cross (pm : Vec F S1x20x20 .f32) (A : FVec F S20x20x512 .f32) : FVec F S20x512 .f32 :=
  multiReduction .add [1] S20x512 (mulf A (broadcastTo S20x20x512 (absf (table pm)) broadcasts_S20x20x1_S20x20x512))
    0x00000000#32 reduces_S20x20x512_S20x512 (.inl rfl) rfl

/-- The cotangent of twice the angle. -/
def cot (σ : Fin 20 → Fin 20) (pq : FVec F S20x512 .f32) (d : FVec F S20x512 .f32) : FVec F S20x512 .f32 :=
  divf (subf (permDiag σ d) d) (mulf (broadcast S20x512 (Scalar.ofBits .f32 0x40000000#32))
    (select (cmpf .oeq pq (broadcast S20x512 (Scalar.ofBits .f32 0x00000000#32)))
      (broadcast S20x512 (Scalar.ofBits .f32 0x3F800000#32)) pq))

/-- The sign of the angle. -/
def sgn (pm : Vec F S1x20x20 .f32) (τ : FVec F S20x512 .f32) : FVec F S20x512 .f32 :=
  select (cmpf .ogt τ (broadcast S20x512 (Scalar.ofBits .f32 0x00000000#32))) (broadcast S20x512 (Scalar.ofBits .f32 0x3F800000#32))
    (select (cmpf .olt τ (broadcast S20x512 (Scalar.ofBits .f32 0x00000000#32))) (broadcast S20x512 (Scalar.ofBits .f32 0xBF800000#32))
      (broadcastTo S20x512 (shapeCast S20x1 (multiReduction .add [1] S20x1 (table pm) 0x00000000#32 reduces_S20x20x1_S20x1 (.inl rfl) rfl)
        shapeCasts_S20x1_S20x1) broadcasts_S20x1_S20x512))

/-- The tangent of the angle. -/
def tng (pq τ ε : FVec F S20x512 .f32) : FVec F S20x512 .f32 :=
  select (cmpf .oeq pq (broadcast S20x512 (Scalar.ofBits .f32 0x00000000#32))) (broadcast S20x512 (Scalar.ofBits .f32 0x00000000#32))
    (divf ε (addf (absf τ) (sqrt (addf (broadcast S20x512 (Scalar.ofBits .f32 0x3F800000#32)) (mulf τ τ)))))

/-- The cosine. -/
def csn (t : FVec F S20x512 .f32) : FVec F S20x512 .f32 :=
  rsqrt (addf (broadcast S20x512 (Scalar.ofBits .f32 0x3F800000#32)) (mulf t t))

/-- The sine, negated. -/
def nsn (t : FVec F S20x512 .f32) : FVec F S20x512 .f32 :=
  subf (broadcast S20x512 (Scalar.ofBits .f32 0x00000000#32)) (mulf t (csn t))

/-- The rows turned. -/
def turnRows (σ : Fin 20 → Fin 20) (t : FVec F S20x512 .f32) (A : FVec F S20x20x512 .f32) : FVec F S20x20x512 .f32 :=
  addf (mulf (broadcastTo S20x20x512 (shapeCast S20x1x512 (csn t) shapeCasts_S20x512_S20x1x512) broadcasts_S20x1x512_S20x20x512) A)
    (mulf (broadcastTo S20x20x512 (shapeCast S20x1x512 (nsn t) shapeCasts_S20x512_S20x1x512) broadcasts_S20x1x512_S20x20x512) (permRow σ A))

/-- The columns turned. -/
def turnCols (σ : Fin 20 → Fin 20) (t : FVec F S20x512 .f32) (A : FVec F S20x20x512 .f32) : FVec F S20x20x512 .f32 :=
  addf (mulf (broadcastTo S20x20x512 (shapeCast S1x20x512 (csn t) shapeCasts_S20x512_S1x20x512) broadcasts_S1x20x512_S20x20x512) A)
    (mulf (broadcastTo S20x20x512 (shapeCast S1x20x512 (nsn t) shapeCasts_S20x512_S1x20x512) broadcasts_S1x20x512_S20x20x512) (permCol σ A))

/-- The tangents of a round. -/
def tangents (σ : Fin 20 → Fin 20) (pm : Vec F S1x20x20 .f32) (A : FVec F S20x20x512 .f32) (d : FVec F S20x512 .f32) :
    FVec F S20x512 .f32 :=
  tng (cross pm A) (cot σ (cross pm A) d) (sgn pm (cot σ (cross pm A) d))

/-- One round. -/
def round (σ : Fin 20 → Fin 20) (pm : Vec F S1x20x20 .f32) (s : State F) : State F :=
  (turnCols σ (tangents σ pm s.1 s.2.2) (turnRows σ (tangents σ pm s.1 s.2.2) s.1),
    turnCols σ (tangents σ pm s.1 s.2.2) s.2.1,
    subf s.2.2 (mulf (tangents σ pm s.1 s.2.2) (cross pm s.1)))

theorem in_bounds : ∀ r : Fin 19, ∀ a : Fin 3, (![r.val, 0, 0] : Fin 3 → Nat) a + S1x20x20.size a ≤ S19x20x20.size a := by
  decide +kernel

/-- Round `r`'s table of games, read from the table of all. -/
def games (arg1 : Memref sig .tc .vmem S19x20x20 .f32) (X_arg1 : BufTy.Contents (Elt F) arg1.view.ty) (r : Fin 19) : Vec F S1x20x20 .f32 :=
  View.readAt (Elt F) arg1.view (Rect.unit (s := S19x20x20) ![r.val, 0, 0] S1x20x20.size (in_bounds r)).toLoadRect X_arg1

/-- `k` rounds, the tournament begun again after every nineteen. -/
def rounds (pm : Fin 19 → Vec F S1x20x20 .f32) (s : State F) : Nat → State F
  | 0 => s
  | k + 1 => round (rival ⟨k % 19, Nat.mod_lt _ (by decide)⟩) (pm ⟨k % 19, Nat.mod_lt _ (by decide)⟩) (rounds pm s k)

theorem sweep_eq (𝒱 : Variants) (c : Dev nD) (bd : Option 𝒱.V) (i : grid0.Coords) (arg1 : Memref sig .tc .vmem S19x20x20 .f32) (harg1 : arg1.IsWhole) (arg2 : Memref sig .tc .vmem S19x19x512 .f32) (harg2 : arg2.IsWhole) (arg3 : Memref sig .tc .vmem S19x19x512 .f32) (harg3 : arg3.IsWhole) (arg4 : Memref sig .tc .vmem S19x16x512 .f32) (harg4 : arg4.IsWhole) (v38 : FVec F S20x20x512 .f32) (v43 : FVec F S20x20 .f32) (v44 : FVec F S20x20x1 .f32) (cst_11 : F .f32) (X_arg1 : BufTy.Contents (Elt F) arg1.view.ty) (k : Fin k0_t1_loop.trips) (acc : State F) :
    (trip_k0_t1 (F := F) 𝒱 c bd i arg1 harg1 arg2 harg2 arg3 harg3 arg4 harg4 v38 v43 v44 cst_11 X_arg1 k).1 acc
      = rounds (games arg1 X_arg1) acc 19 := by
  unfold trip_k0_t1
  dsimp only
  sl_kernel_rfl

end Cert.EigIdeal.Block

end
-- ==== Proof.JacobiTour.lean ====
/-
  A whole tournament of plane rotations: the games of a round played at once or one after the other, the bye's row and
  column, the bound on the diagonal.
-/
module

public import proofs.«01_k».proof.Proof.Jacobi

@[expose] public section

noncomputable section

namespace Cert.Jacobi

/-! ## A round -/

/-- The tangent of player `i`'s game of round `r`. -/
def angle (r : Fin 19) (A : Mat) (i : Fin 20) : ℝ := tanAt (rival r) (fun i => A i i) A i

/-- All games of round `r` at once: the matrix and the vectors. -/
def play (r : Fin 19) (s : Mat × Mat) : Mat × Mat :=
  (turn (rival r) (fun i => cos (angle r s.1 i)) (fun i => angle r s.1 i * cos (angle r s.1 i)) s.1,
    turnRight (rival r) (fun i => cos (angle r s.1 i)) (fun i => angle r s.1 i * cos (angle r s.1 i)) s.2)

theorem play_fst (r : Fin 19) (s : Mat × Mat) : (play r s).1
    = turn (rival r) (fun i => cos (angle r s.1 i)) (fun i => angle r s.1 i * cos (angle r s.1 i)) s.1 := rfl

theorem play_snd (r : Fin 19) (s : Mat × Mat) : (play r s).2
    = turnRight (rival r) (fun i => cos (angle r s.1 i)) (fun i => angle r s.1 i * cos (angle r s.1 i)) s.2 := rfl

theorem angle_rival (r : Fin 19) (A : Mat) (hA : ∀ i j, A i j = A j i) (i : Fin 20) :
    angle r A (rival r i) = - angle r A i := by
  unfold angle
  rcases lt_or_gt_of_ne (rival_ne r i) with h | h
  · rw [tanAt_high (rival r) _ A i h (rival_rival r i) (hA _ _), neg_neg]
  · have := tanAt_high (rival r) (fun i => A i i) A (rival r i) (by rw [rival_rival]; exact h) (by rw [rival_rival]) (hA _ _)
    rw [this, rival_rival]

theorem angle_low (r : Fin 19) (A : Mat) (k : Fin 10) :
    angle r A (low r k) = tan (A (low r k) (low r k)) (A (low r k) (high r k)) (A (high r k) (high r k)) := by
  have := tanAt_low (rival r) (fun i => A i i) A (low r k) (by rw [rival_low]; exact low_lt_high r k)
  rw [rival_low] at this
  exact this

theorem angle_high (r : Fin 19) (A : Mat) (hA : ∀ i j, A i j = A j i) (k : Fin 10) :
    angle r A (high r k) = - tan (A (low r k) (low r k)) (A (low r k) (high r k)) (A (high r k) (high r k)) := by
  rw [← angle_low, ← rival_low, angle_rival r A hA]

/-- The equation of the tangent, for each of the two players. -/
theorem angle_eq (r : Fin 19) (A : Mat) (hA : ∀ i j, A i j = A j i) (i : Fin 20) :
    A i (rival r i) * angle r A i ^ 2 + (A (rival r i) (rival r i) - A i i) * angle r A i - A i (rival r i) = 0 := by
  rcases lt_or_gt_of_ne (rival_ne r i) with h | h
  · have e := tan_eq (A (rival r i) (rival r i)) (A (rival r i) i) (A i i)
    have t : angle r A (rival r i) = tan (A (rival r i) (rival r i)) (A (rival r i) i) (A i i) := by
      have := tanAt_low (rival r) (fun i => A i i) A (rival r i) (by rw [rival_rival]; exact h)
      rw [rival_rival] at this
      exact this
    rw [← t, angle_rival r A hA, hA (rival r i) i] at e
    linear_combination e
  · have t : angle r A i = tan (A i i) (A i (rival r i)) (A (rival r i) (rival r i)) := tanAt_low (rival r) (fun i => A i i) A i h
    rw [t]
    exact tan_eq _ _ _

/-- The diagonal of the turned matrix. -/
theorem play_diag (r : Fin 19) (s : Mat × Mat) (hA : ∀ i j, s.1 i j = s.1 j i) (i : Fin 20) :
    (play r s).1 i i = s.1 i i - angle r s.1 i * s.1 i (rival r i) := by
  have h1 := cos_sq (angle r s.1 i)
  have h2 := angle_eq r s.1 hA i
  rw [play_fst]
  unfold turn
  rw [hA (rival r i) i]
  set t := angle r s.1 i
  set c := cos t
  set x := s.1 i (rival r i)
  set a := s.1 i i
  set b := s.1 (rival r i) (rival r i)
  linear_combination (a - t * x) * h1 + c ^ 2 * t * h2

theorem play_symm (r : Fin 19) (s : Mat × Mat) (hA : ∀ i j, s.1 i j = s.1 j i) (i j : Fin 20) :
    (play r s).1 i j = (play r s).1 j i := by
  rw [play_fst]
  exact turn_symm _ _ _ _ hA i j

theorem play_sumSq (r : Fin 19) (s : Mat × Mat) (hA : ∀ i j, s.1 i j = s.1 j i) :
    ∑ i, ∑ j, (play r s).1 i j ^ 2 = ∑ i, ∑ j, s.1 i j ^ 2 := by
  refine turn_sumSq _ _ _ _ (rival_rival r) (fun i => ?_) (fun i => ?_) (fun i => ?_)
  · show cos (angle r s.1 (rival r i)) = _
    rw [angle_rival r _ hA, cos_neg]
  · show angle r s.1 (rival r i) * cos (angle r s.1 (rival r i)) = _
    rw [angle_rival r _ hA, cos_neg, neg_mul]
  · have := cos_sq (angle r s.1 i)
    show cos _ ^ 2 + (_ * cos _) ^ 2 = 1
    linear_combination this

/-! ## One game -/

/-- The tangent of game `k` of round `r`. -/
def gameTan (r : Fin 19) (k : Fin 10) (A : Mat) : ℝ := tan (A (low r k) (low r k)) (A (low r k) (high r k)) (A (high r k) (high r k))

/-- Every player's cosine when only game `k` is played. -/
def gameCos (r : Fin 19) (k : Fin 10) (A : Mat) (i : Fin 20) : ℝ := if i = low r k ∨ i = high r k then cos (gameTan r k A) else 1

/-- Every player's sine when only game `k` is played. -/
def gameSin (r : Fin 19) (k : Fin 10) (A : Mat) (i : Fin 20) : ℝ :=
  if i = low r k then gameTan r k A * cos (gameTan r k A)
  else if i = high r k then -(gameTan r k A * cos (gameTan r k A)) else 0

/-- One game: the matrix and the vectors. -/
def playOne (r : Fin 19) (k : Fin 10) (s : Mat × Mat) : Mat × Mat :=
  (turn (rival r) (gameCos r k s.1) (gameSin r k s.1) s.1, turnRight (rival r) (gameCos r k s.1) (gameSin r k s.1) s.2)

/-- The cosines of the round's first `n` games. -/
def firstCos (r : Fin 19) (A : Mat) (n : Nat) (i : Fin 20) : ℝ := if game r i < n then cos (angle r A i) else 1

/-- The sines of the round's first `n` games. -/
def firstSin (r : Fin 19) (A : Mat) (n : Nat) (i : Fin 20) : ℝ := if game r i < n then angle r A i * cos (angle r A i) else 0

theorem game_low (r : Fin 19) (k : Fin 10) : game r (low r k) = k.val := (game_eq_iff r _ k).mpr (Or.inl rfl)
theorem game_high (r : Fin 19) (k : Fin 10) : game r (high r k) = k.val := (game_eq_iff r _ k).mpr (Or.inr rfl)
theorem game_rival : ∀ (r : Fin 19) (i : Fin 20), game r (rival r i) = game r i := by decide +kernel

/-- A game not yet played is played on the entries of the round's beginning. -/
theorem first_apply (r : Fin 19) (A : Mat) (n : Nat) (i j : Fin 20) (hi : n ≤ game r i) (hj : n ≤ game r j) :
    turn (rival r) (firstCos r A n) (firstSin r A n) A i j = A i j := by
  unfold turn firstCos firstSin
  rw [if_neg (not_lt.mpr hi), if_neg (not_lt.mpr hi), if_neg (not_lt.mpr hj), if_neg (not_lt.mpr hj)]
  ring

theorem gameTan_first (r : Fin 19) (k : Fin 10) (A : Mat) :
    gameTan r k (turn (rival r) (firstCos r A k.val) (firstSin r A k.val) A) = gameTan r k A := by
  unfold gameTan
  rw [first_apply _ _ _ _ _ (game_low r k).ge (game_low r k).ge, first_apply _ _ _ _ _ (game_low r k).ge (game_high r k).ge,
    first_apply _ _ _ _ _ (game_high r k).ge (game_high r k).ge]

/-- The first `n` games and one more. -/
theorem first_succ (r : Fin 19) (A A' : Mat) (hA : ∀ i j, A i j = A j i) (k : Fin 10) (h : gameTan r k A' = gameTan r k A) (i : Fin 20) :
    (gameCos r k A' i = 1 ∧ gameSin r k A' i = 0 ∧ firstCos r A (k.val + 1) i = firstCos r A k.val i
        ∧ firstSin r A (k.val + 1) i = firstSin r A k.val i)
      ∨ (firstCos r A k.val i = 1 ∧ firstSin r A k.val i = 0 ∧ firstCos r A k.val (rival r i) = 1 ∧ firstSin r A k.val (rival r i) = 0
        ∧ firstCos r A (k.val + 1) i = gameCos r k A' i ∧ firstSin r A (k.val + 1) i = gameSin r k A' i) := by
  unfold gameCos gameSin firstCos firstSin
  rw [h, game_rival]
  by_cases hk : game r i = k.val
  · right
    have hl : ¬ game r i < k.val := by omega
    have hl' : game r i < k.val + 1 := by omega
    simp only [if_neg hl, if_pos hl', if_pos ((game_eq_iff r i k).mp hk)]
    refine ⟨trivial, trivial, trivial, trivial, ?_⟩
    rcases (game_eq_iff r i k).mp hk with e | e
    · rw [if_pos e, e, angle_low]
      exact ⟨rfl, rfl⟩
    · have hne : ¬ i = low r k := by rw [e]; exact (low_lt_high r k).ne'
      rw [if_neg hne, if_pos e, e, angle_high r A hA, cos_neg]
      exact ⟨rfl, by rw [neg_mul]; rfl⟩
  · left
    have hn := (game_eq_iff r i k).not.mp hk
    have hl : (game r i < k.val + 1) = (game r i < k.val) := propext ⟨fun h => by omega, fun h => by omega⟩
    rw [if_neg hn, if_neg fun h => hn (Or.inl h), if_neg fun h => hn (Or.inr h)]
    simp only [hl, and_self]

/-- The first `n` games of a round, one after the other. -/
def playFirst (r : Fin 19) (s : Mat × Mat) : Nat → Mat × Mat
  | 0 => s
  | n + 1 => playOne r ⟨n % 10, Nat.mod_lt _ (by decide)⟩ (playFirst r s n)

theorem playFirst_eq (r : Fin 19) (s : Mat × Mat) (hA : ∀ i j, s.1 i j = s.1 j i) (n : Nat) (hn : n ≤ 10) :
    playFirst r s n = (turn (rival r) (firstCos r s.1 n) (firstSin r s.1 n) s.1,
      turnRight (rival r) (firstCos r s.1 n) (firstSin r s.1 n) s.2) := by
  induction n with
  | zero =>
    refine Prod.ext ?_ ?_
    · funext i j
      exact (first_apply r s.1 0 i j (Nat.zero_le _) (Nat.zero_le _)).symm
    · funext i j
      show s.2 i j = firstCos r s.1 0 j * s.2 i j - firstSin r s.1 0 j * s.2 i (rival r j)
      unfold firstCos firstSin
      rw [if_neg (Nat.not_lt_zero _), if_neg (Nat.not_lt_zero _)]
      ring
  | succ n ih =>
    have hk : (⟨n % 10, Nat.mod_lt _ (by decide)⟩ : Fin 10) = ⟨n, hn⟩ := Fin.ext (Nat.mod_eq_of_lt hn)
    show playOne r _ (playFirst r s n) = _
    rw [ih (by omega), hk]
    have h := first_succ r s.1 (turn (rival r) (firstCos r s.1 n) (firstSin r s.1 n) s.1) hA ⟨n, hn⟩ (gameTan_first r ⟨n, hn⟩ s.1)
    exact Prod.ext (turn_turn _ _ _ _ _ _ _ _ h) (turnRight_turnRight _ _ _ _ _ _ _ _ h)

/-- Ten games are the round. -/
theorem playFirst_ten (r : Fin 19) (s : Mat × Mat) (hA : ∀ i j, s.1 i j = s.1 j i) : playFirst r s 10 = play r s := by
  rw [playFirst_eq r s hA 10 le_rfl]
  have hc : firstCos r s.1 10 = fun i => cos (angle r s.1 i) := funext fun i => if_pos (game_lt r i)
  have hs : firstSin r s.1 10 = fun i => angle r s.1 i * cos (angle r s.1 i) := funext fun i => if_pos (game_lt r i)
  rw [hc, hs]
  rfl

/-! ## Many rounds -/

/-- `k` rounds, the tournament begun again after every nineteen. -/
def tour (s : Mat × Mat) : Nat → Mat × Mat
  | 0 => s
  | k + 1 => play ⟨k % 19, Nat.mod_lt _ (by decide)⟩ (tour s k)

/-- `j` games, ten to a round. -/
def turns (s : Mat × Mat) : Nat → Mat × Mat
  | 0 => s
  | j + 1 => playOne ⟨j % 190 / 10, by omega⟩ ⟨j % 10, Nat.mod_lt _ (by decide)⟩ (turns s j)

theorem tour_symm (s : Mat × Mat) (hA : ∀ i j, s.1 i j = s.1 j i) (k : Nat) : ∀ i j, (tour s k).1 i j = (tour s k).1 j i := by
  induction k with
  | zero => exact hA
  | succ k ih => exact play_symm _ _ ih

theorem tour_sumSq (s : Mat × Mat) (hA : ∀ i j, s.1 i j = s.1 j i) (k : Nat) :
    ∑ i, ∑ j, (tour s k).1 i j ^ 2 = ∑ i, ∑ j, s.1 i j ^ 2 := by
  induction k with
  | zero => rfl
  | succ k ih => exact (play_sumSq _ _ (tour_symm s hA k)).trans ih

theorem turns_add (s : Mat × Mat) (k n : Nat) (hn : n ≤ 10) :
    turns s (10 * k + n) = playFirst ⟨k % 19, Nat.mod_lt _ (by decide)⟩ (turns s (10 * k)) n := by
  induction n with
  | zero => rfl
  | succ n ih =>
    show playOne ⟨(10 * k + n) % 190 / 10, by omega⟩ ⟨(10 * k + n) % 10, Nat.mod_lt _ (by decide)⟩ (turns s (10 * k + n))
      = playOne _ ⟨n % 10, Nat.mod_lt _ (by decide)⟩ (playFirst _ _ n)
    rw [ih (by omega)]
    have h1 : (⟨(10 * k + n) % 190 / 10, by omega⟩ : Fin 19) = ⟨k % 19, Nat.mod_lt _ (by decide)⟩ := Fin.ext (by show _ = _; dsimp only; omega)
    have h2 : (⟨(10 * k + n) % 10, Nat.mod_lt _ (by decide)⟩ : Fin 10) = ⟨n % 10, Nat.mod_lt _ (by decide)⟩ := Fin.ext (by dsimp only; omega)
    rw [h1, h2]

/-- The rounds are their games, one after the other. -/
theorem turns_eq_tour (s : Mat × Mat) (hA : ∀ i j, s.1 i j = s.1 j i) (k : Nat) : turns s (10 * k) = tour s k := by
  induction k with
  | zero => rfl
  | succ k ih =>
    show turns s (10 * k + 10) = play _ (tour s k)
    rw [turns_add s k 10 le_rfl, ih]
    exact playFirst_ten _ _ (tour_symm s hA k)

/-! ## The bye -/

/-- The bye's row and column are zero off the diagonal, where they are `β`. -/
def Bye (β : ℝ) (A : Mat) : Prop := ∀ i, A i 19 = if i = 19 then β else 0

theorem play_bye (β : ℝ) (r : Fin 19) (s : Mat × Mat) (hA : ∀ i j, s.1 i j = s.1 j i) (h : Bye β s.1) : Bye β (play r s).1 := by
  have hne := rival_ne r 19
  have hb : s.1 19 (rival r 19) = 0 := by rw [hA, h, if_neg hne]
  have h0 : angle r s.1 19 = 0 := by
    unfold angle tanAt; exact if_pos hb
  intro i
  rw [play_fst]
  unfold turn
  simp only [h0, cos_zero, zero_mul, sub_zero, one_mul]
  rw [h, h]
  by_cases hi : i = 19
  · rw [if_pos hi, if_neg (by rw [hi]; exact hne), hi, h0, cos_zero]; ring
  · rw [if_neg hi]
    by_cases hr : rival r i = 19
    · have : angle r s.1 i = 0 := by
        have := angle_rival r s.1 hA i
        rw [hr, h0] at this
        linarith
      rw [this]; ring
    · rw [if_neg hr]; ring

theorem tour_bye (β : ℝ) (s : Mat × Mat) (hA : ∀ i j, s.1 i j = s.1 j i) (h : Bye β s.1) (k : Nat) : Bye β (tour s k).1 := by
  induction k with
  | zero => exact h
  | succ k ih => exact play_bye β _ _ (tour_symm s hA k) ih

/-- No diagonal entry of a player exceeds the root of the sum of squares. -/
theorem tour_diag_sq (β : ℝ) (s : Mat × Mat) (hA : ∀ i j, s.1 i j = s.1 j i) (h : Bye β s.1) (k : Nat) (i : Fin 19) :
    (tour s k).1 i.castSucc i.castSucc ^ 2 ≤ ∑ i : Fin 19, ∑ j : Fin 19, s.1 i.castSucc j.castSucc ^ 2 := by
  have split : ∀ A : Mat, (∀ i j, A i j = A j i) → Bye β A →
      ∑ i, ∑ j, A i j ^ 2 = (∑ i : Fin 19, ∑ j : Fin 19, A i.castSucc j.castSucc ^ 2) + β ^ 2 := fun A hA h => by
    have hl : ∀ i : Fin 19, A i.castSucc (Fin.last 19) = 0 := fun i => by
      have := h i.castSucc
      rw [if_neg (by intro e; have := congrArg Fin.val e; have := i.isLt; simp at *; omega)] at this
      exact this
    have hl' : ∀ i : Fin 19, A (Fin.last 19) i.castSucc = 0 := fun i => by rw [hA]; exact hl i
    have hb : A (Fin.last 19) (Fin.last 19) = β := by have := h 19; rwa [if_pos rfl] at this
    rw [Fin.sum_univ_castSucc]
    simp only [Fin.sum_univ_castSucc (n := 19), hl, hl', hb]
    simp
  have e := tour_sumSq s hA k
  rw [split _ hA h, split _ (tour_symm s hA k) (tour_bye β s hA h k)] at e
  have e' := add_right_cancel e
  rw [← e']
  calc (tour s k).1 i.castSucc i.castSucc ^ 2
      ≤ ∑ j : Fin 19, (tour s k).1 i.castSucc j.castSucc ^ 2 :=
        Finset.single_le_sum (f := fun j : Fin 19 => (tour s k).1 i.castSucc j.castSucc ^ 2) (fun j _ => sq_nonneg _) (Finset.mem_univ i)
    _ ≤ _ := Finset.single_le_sum (f := fun i : Fin 19 => ∑ j : Fin 19, (tour s k).1 i.castSucc j.castSucc ^ 2)
        (fun i _ => Finset.sum_nonneg fun j _ => sq_nonneg _) (Finset.mem_univ i)

end Cert.Jacobi

end
-- ==== Proof.EigPlay.lean ====
/-
  One round of the first call's sweep, at one graph, over real entries: the matrix and the vectors turned in the plane of
  every game of the round.
-/
module

public import proofs.«01_k».proof.Proof.EigRound
public import proofs.«01_k».proof.Proof.JacobiTour

@[expose] public section

set_option maxRecDepth 16384

noncomputable section

open Idealize.ShloMosaic

namespace Cert.EigIdeal.Block

open Cert.EigIdeal.Gen Cert.Jacobi

theorem two_lit : Ideal.ofBits .f32 0x40000000#32 = ((2 : ℝ) : EReal) := by
  simp [Ideal.ofBits, Ideal.ieee, -EReal.coe_mul, -EReal.coe_neg]; norm_num

theorem neg_one_lit : Ideal.ofBits .f32 0xBF800000#32 = ((-1 : ℝ) : EReal) := by
  simp [Ideal.ofBits, Ideal.ieee, -EReal.coe_mul, -EReal.coe_neg]; norm_num

theorem div_real (x : ℝ) {y : ℝ} (h : y ≠ 0) : Ideal.div (x : EReal) (y : EReal) = ((x / y : ℝ) : EReal) := by
  rw [Ideal.div_coe h, ← EReal.coe_mul, mul_one_div]

theorem sqrt_real {x : ℝ} (h : 0 ≤ x) : Ideal.sqrt (x : EReal) = ((√x : ℝ) : EReal) := by
  rw [Ideal.sqrt_coe, if_neg (not_lt.mpr h)]

theorem rsqrt_real {x : ℝ} (h : 0 < x) : Ideal.rsqrt (x : EReal) = ((1 / √x : ℝ) : EReal) := by
  rw [Ideal.rsqrt_coe, if_neg (not_lt.mpr h.le), if_neg h.ne', one_div]

theorem abs_real (x : ℝ) : (FloatOps.absf ((x : EReal) : Ideal .f32) : Ideal .f32) = ((|x| : ℝ) : EReal) := by
  show max (x : EReal) (-(x : EReal)) = _
  rw [← EReal.coe_neg, ← EReal.coe_strictMono.monotone.map_max]
  rfl

theorem sum_real {n : Nat} (f : Fin n → ℝ) : ∑ i, (f i : EReal) = ((∑ i, f i : ℝ) : EReal) := by
  exact (map_sum (⟨⟨fun x : ℝ => (x : EReal), rfl⟩, EReal.coe_add⟩ : ℝ →+ EReal) f Finset.univ).symm

theorem permDiag_apply (σ : Fin 20 → Fin 20) (d : FVec Ideal S20x512 .f32) (i : Fin 20) (g : Fin 512) :
    permDiag σ d (ix2 i g) = d (ix2 (σ i) g) := by
  pointwise [permDiag]

theorem permRow_apply (σ : Fin 20 → Fin 20) (A : FVec Ideal S20x20x512 .f32) (i j : Fin 20) (g : Fin 512) :
    permRow σ A (ix3 i j g) = A (ix3 (σ i) j g) := by
  pointwise [permRow]

theorem permCol_apply (σ : Fin 20 → Fin 20) (A : FVec Ideal S20x20x512 .f32) (i j : Fin 20) (g : Fin 512) :
    permCol σ A (ix3 i j g) = A (ix3 i (σ j) g) := by
  pointwise [permCol]

theorem cross_apply (pm : Vec Ideal S1x20x20 .f32) (A : FVec Ideal S20x20x512 .f32) (i : Fin 20) (g : Fin 512) :
    cross pm A (ix2 i g) = ∑ j : Fin 20, A (ix3 i j g) * (FloatOps.absf (pm (ix3 0 i j)) : Ideal .f32) := by
  pointwise [cross, table]

theorem cot_apply (σ : Fin 20 → Fin 20) (pq d : FVec Ideal S20x512 .f32) (i : Fin 20) (g : Fin 512) :
    cot σ pq d (ix2 i g) = Ideal.div (d (ix2 (σ i) g) - d (ix2 i g))
      (Ideal.ofBits .f32 0x40000000#32 * if pq (ix2 i g) = 0 then 1 else pq (ix2 i g)) := by
  pointwise [cot, permDiag_apply]

theorem sgn_apply (pm : Vec Ideal S1x20x20 .f32) (τ : FVec Ideal S20x512 .f32) (i : Fin 20) (g : Fin 512) :
    sgn pm τ (ix2 i g) = if 0 < τ (ix2 i g) then 1
      else if τ (ix2 i g) < 0 then Ideal.ofBits .f32 0xBF800000#32 else ∑ x : Fin 20, pm (ix3 0 i x) := by
  pointwise [sgn, table]

theorem tng_apply (pq τ ε : FVec Ideal S20x512 .f32) (i : Fin 20) (g : Fin 512) :
    tng pq τ ε (ix2 i g) = if pq (ix2 i g) = 0 then 0
      else Ideal.div (ε (ix2 i g)) ((FloatOps.absf (τ (ix2 i g)) : Ideal .f32) + Ideal.sqrt (1 + τ (ix2 i g) * τ (ix2 i g))) := by
  pointwise [tng]

theorem csn_apply (t : FVec Ideal S20x512 .f32) (i : Fin 20) (g : Fin 512) :
    csn t (ix2 i g) = Ideal.rsqrt (1 + t (ix2 i g) * t (ix2 i g)) := by
  pointwise [csn]

theorem nsn_apply (t : FVec Ideal S20x512 .f32) (i : Fin 20) (g : Fin 512) :
    nsn t (ix2 i g) = 0 - t (ix2 i g) * csn t (ix2 i g) := by
  pointwise [nsn]

theorem turnRows_apply (σ : Fin 20 → Fin 20) (t : FVec Ideal S20x512 .f32) (A : FVec Ideal S20x20x512 .f32) (i j : Fin 20) (g : Fin 512) :
    turnRows σ t A (ix3 i j g) = csn t (ix2 i g) * A (ix3 i j g) + nsn t (ix2 i g) * A (ix3 (σ i) j g) := by
  pointwise [turnRows, permRow_apply]

theorem turnCols_apply (σ : Fin 20 → Fin 20) (t : FVec Ideal S20x512 .f32) (A : FVec Ideal S20x20x512 .f32) (i j : Fin 20) (g : Fin 512) :
    turnCols σ t A (ix3 i j g) = csn t (ix2 j g) * A (ix3 i j g) + nsn t (ix2 j g) * A (ix3 i (σ j) g) := by
  pointwise [turnCols, permCol_apply]

/-! ## Over real entries -/

/-- Graph `g`'s entries in the state are real: the matrix, the vectors, and the matrix's diagonal. -/
def At (s : State Ideal) (g : Fin 512) (M : Mat × Mat) : Prop :=
  (∀ i j, s.1 (ix3 i j g) = ((M.1 i j : ℝ) : EReal)) ∧ (∀ i j, s.2.1 (ix3 i j g) = ((M.2 i j : ℝ) : EReal))
    ∧ ∀ i, s.2.2 (ix2 i g) = ((M.1 i i : ℝ) : EReal)

/-- The table says who plays whom: one for the lower player, minus one for the higher. -/
def IsTable (σ : Fin 20 → Fin 20) (pm : Vec Ideal S1x20x20 .f32) : Prop :=
  ∀ i j, pm (ix3 0 i j) = (((if j = σ i then if i < j then 1 else -1 else 0 : ℝ)) : EReal)

theorem cross_at (σ : Fin 20 → Fin 20) (pm : Vec Ideal S1x20x20 .f32) (h : IsTable σ pm) (A : FVec Ideal S20x20x512 .f32) (g : Fin 512)
    (M : Mat) (hA : ∀ i j, A (ix3 i j g) = ((M i j : ℝ) : EReal)) (i : Fin 20) :
    cross pm A (ix2 i g) = ((M i (σ i) : ℝ) : EReal) := by
  rw [cross_apply]
  simp only [hA, h i, abs_real, ← EReal.coe_mul, sum_real]
  congr 1
  rw [Finset.sum_eq_single (σ i)]
  · rw [if_pos rfl]; split_ifs <;> simp
  · intro j _ hj; rw [if_neg hj]; simp
  · intro hj; exact absurd (Finset.mem_univ _) hj

theorem tangents_at (σ : Fin 20 → Fin 20) (pm : Vec Ideal S1x20x20 .f32) (h : IsTable σ pm) (s : State Ideal) (g : Fin 512)
    (M : Mat × Mat) (hs : At s g M) (i : Fin 20) :
    tangents σ pm s.1 s.2.2 (ix2 i g) = ((tanAt σ (fun i => M.1 i i) M.1 i : ℝ) : EReal) := by
  obtain ⟨hA, -, hd⟩ := hs
  unfold tangents
  rw [tng_apply, cross_at σ pm h s.1 g M.1 hA]
  unfold tanAt
  by_cases h0 : M.1 i (σ i) = 0
  · rw [if_pos h0, if_pos (by rw [h0]; rfl)]; rfl
  · have h0' : ¬ ((M.1 i (σ i) : ℝ) : EReal) = 0 := fun e => h0 (EReal.coe_eq_zero.mp e)
    rw [if_neg h0, if_neg h0', sgn_apply, cot_apply, cross_at σ pm h s.1 g M.1 hA, if_neg h0', hd, hd, two_lit, ← EReal.coe_sub,
      ← EReal.coe_mul, div_real _ (mul_ne_zero two_ne_zero h0)]
    set τ := (M.1 (σ i) (σ i) - M.1 i i) / (2 * M.1 i (σ i))
    have hp : 0 ≤ 1 + τ * τ := by nlinarith [sq_nonneg τ]
    have hq : |τ| + √(1 + τ * τ) ≠ 0 := by
      have : 0 < √(1 + τ * τ) := Real.sqrt_pos.mpr (by nlinarith [sq_nonneg τ])
      have := abs_nonneg τ
      positivity
    have hsum : ∑ x : Fin 20, pm (ix3 0 i x) = (((if i < σ i then 1 else -1 : ℝ)) : EReal) := by
      simp only [h i, sum_real]
      congr 1
      rw [Finset.sum_eq_single (σ i)]
      · rw [if_pos rfl]
      · intro j _ hj; rw [if_neg hj]
      · intro hj; exact absurd (Finset.mem_univ _) hj
    have he : (if (0 : EReal) < (τ : EReal) then (1 : EReal) else if (τ : EReal) < 0 then Ideal.ofBits .f32 0xBF800000#32
        else ∑ x : Fin 20, pm (ix3 0 i x)) = (((if 0 < τ then 1 else if τ < 0 then -1 else if i < σ i then 1 else -1 : ℝ)) : EReal) := by
      rw [hsum, neg_one_lit]
      have e1 : ((0 : EReal) < (τ : EReal)) = (0 < τ) := propext EReal.coe_pos
      have e2 : ((τ : EReal) < 0) = (τ < 0) := propext EReal.coe_neg'
      simp only [e1, e2]
      split_ifs <;> rfl
    rw [he, abs_real, ← EReal.coe_mul, ← EReal.coe_one, ← EReal.coe_add, sqrt_real hp, ← EReal.coe_add, div_real _ hq]

theorem csn_at (t : FVec Ideal S20x512 .f32) (i : Fin 20) (g : Fin 512) (τ : ℝ) (h : t (ix2 i g) = (τ : EReal)) :
    csn t (ix2 i g) = ((cos τ : ℝ) : EReal) := by
  rw [csn_apply, h, ← EReal.coe_mul, ← EReal.coe_one, ← EReal.coe_add, rsqrt_real (by nlinarith [sq_nonneg τ]), add_comm]
  rfl

theorem nsn_at (t : FVec Ideal S20x512 .f32) (i : Fin 20) (g : Fin 512) (τ : ℝ) (h : t (ix2 i g) = (τ : EReal)) :
    nsn t (ix2 i g) = ((-(τ * cos τ) : ℝ) : EReal) := by
  rw [nsn_apply, csn_at t i g τ h, h, ← EReal.coe_mul, ← EReal.coe_zero, ← EReal.coe_sub, zero_sub]

/-- One round, over real entries. -/
theorem round_at (r : Fin 19) (pm : Vec Ideal S1x20x20 .f32) (h : IsTable (rival r) pm) (s : State Ideal) (g : Fin 512) (M : Mat × Mat)
    (hM : ∀ i j, M.1 i j = M.1 j i) (hs : At s g M) : At (round (rival r) pm s) g (play r M) := by
  have ht : ∀ i, tangents (rival r) pm s.1 s.2.2 (ix2 i g) = ((angle r M.1 i : ℝ) : EReal) := tangents_at (rival r) pm h s g M hs
  have hc := fun i => csn_at _ i g _ (ht i)
  have hn := fun i => nsn_at _ i g _ (ht i)
  have hx := cross_at (rival r) pm h s.1 g M.1 hs.1
  obtain ⟨hA, hV, hd⟩ := hs
  refine ⟨fun i j => ?_, fun i j => ?_, fun i => ?_⟩
  · show turnCols _ _ _ (ix3 i j g) = _
    rw [turnCols_apply, turnRows_apply, turnRows_apply]
    simp only [hc, hn, hA, ← EReal.coe_mul, ← EReal.coe_add]
    rw [play_fst]
    unfold turn
    congr 1
    ring
  · show turnCols _ _ _ (ix3 i j g) = _
    rw [turnCols_apply]
    simp only [hc, hn, hV, ← EReal.coe_mul, ← EReal.coe_add]
    rw [play_snd]
    unfold turnRight
    congr 1
    ring
  · show s.2.2 (ix2 i g) - tangents _ _ _ _ (ix2 i g) * cross pm s.1 (ix2 i g) = _
    rw [hd, ht, hx, ← EReal.coe_mul, ← EReal.coe_sub, play_diag r M hM]

/-- Many rounds. -/
theorem rounds_at (pm : Fin 19 → Vec Ideal S1x20x20 .f32) (h : ∀ r, IsTable (rival r) (pm r)) (s : State Ideal) (g : Fin 512)
    (M : Mat × Mat) (hM : ∀ i j, M.1 i j = M.1 j i) (hs : At s g M) (k : Nat) : At (rounds pm s k) g (tour M k) := by
  induction k with
  | zero => exact hs
  | succ k ih => exact round_at _ _ (h _) _ g _ (tour_symm M hM k) ih

end Cert.EigIdeal.Block

end
-- ==== Proof.EigFinish.lean ====
/-
  The first call's body as a function of its blocks: the start, the rounds, and the columns put in the order of their
  values with their signs fixed.
-/
module

public import proofs.«01_k».proof.Proof.EigPlay
public import proofs.«01_k».proof.Proof.Gen.EigIdeal.Frame

@[expose] public section

set_option maxRecDepth 16384

noncomputable section

open Idealize.ShloMosaic Idealize.SL.Sem

namespace Cert.EigIdeal.Block

open Cert.EigIdeal.Gen Cert.Jacobi

variable {F : FTy → Type} [FloatOps F]

/-- The places `0` to `15` as the kernel's literals. -/
def places : Fin 16 → BitVec 32 :=
  ![0x00000000#32, 0x3F800000#32, 0x40000000#32, 0x40400000#32, 0x40800000#32, 0x40A00000#32, 0x40C00000#32, 0x40E00000#32,
    0x41000000#32, 0x41100000#32, 0x41200000#32, 0x41300000#32, 0x41400000#32, 0x41500000#32, 0x41600000#32, 0x41700000#32]

/-- The column in a place, found by its rank. -/
def column (V : FVec F S20x20x512 .f32) (rank : FVec F S20x512 .f32) (b : BitVec 32) : FVec F S20x512 .f32 :=
  multiReduction .add [1] S20x512
    (mulf V (broadcastTo S20x20x512 (shapeCast S1x20x512
      (sitofp .f32 (extui 32 (cmpf .oeq rank (broadcast S20x512 (Scalar.ofBits .f32 b))) natLt_1_32) : FVec F S20x512 .f32)
      shapeCasts_S20x512_S1x20x512) broadcasts_S1x20x512_S20x20x512))
    0x00000000#32 reduces_S20x20x512_S20x512 (.inl rfl) rfl

/-- The column's sum over the nodes. -/
def colSum (col : FVec F S20x512 .f32) : FVec F S1x512 .f32 :=
  shapeCast S1x512 (multiReduction .add [0] S512 (extractStridedSlice S19x512 ![0, 0] col slices_S20x512_o0_0_S19x512)
    0x00000000#32 reduces_S19x512_S512 (.inl rfl) rfl) shapeCasts_S512_S1x512

/-- The sign of the sum. -/
def sumSign (x : FVec F S1x512 .f32) : FVec F S1x512 .f32 :=
  select (cmpf .ogt (absf x) (broadcast S1x512 (Scalar.ofBits .f32 0x00000000#32)))
    (select (cmpf .olt x (constant S1x512 .f32 0x00000000#32)) (constant S1x512 .f32 0xBF800000#32) (constant S1x512 .f32 0x3F800000#32)) x

/-- The column with the sign that makes its sum positive. -/
def signed (col : FVec F S20x512 .f32) : FVec F S20x512 .f32 :=
  mulf col (broadcastTo S20x512
    (select (cmpf .oeq (sumSign (colSum col)) (broadcast S1x512 (Scalar.ofBits .f32 0x00000000#32)))
      (broadcast S1x512 (Scalar.ofBits .f32 0x3F800000#32)) (sumSign (colSum col)))
    broadcasts_S1x512_S20x512)

/-- No-number and infinities replaced. -/
def noNaN (x : FVec F S20x512 .f32) : FVec F S20x512 .f32 :=
  select (cmpf .one x x) (broadcast S20x512 (Scalar.ofBits .f32 0x00000000#32)) x
def noInf (x : FVec F S20x512 .f32) : FVec F S20x512 .f32 :=
  select (cmpf .oeq x (broadcast S20x512 (Scalar.ofBits .f32 0x7F800000#32))) (broadcast S20x512 (Scalar.ofBits .f32 0x3F800000#32)) x
def noNegInf (x : FVec F S20x512 .f32) : FVec F S20x512 .f32 :=
  select (cmpf .oeq x (broadcast S20x512 (Scalar.ofBits .f32 0xFF800000#32))) (broadcast S20x512 (Scalar.ofBits .f32 0xBF800000#32)) x

/-- The bye's row dropped. -/
def piece (x : FVec F S20x512 .f32) : FVec F S19x1x512 .f32 :=
  shapeCast S19x1x512 (extractStridedSlice S19x512 ![0, 0] x slices_S20x512_o0_0_S19x512) shapeCasts_S19x512_S19x1x512

/-- The sixteen columns. -/
def finish (V : FVec F S20x20x512 .f32) (d : FVec F S20x512 .f32) : FVec F S19x16x512 .f32 :=
  concatenate S19x16x512 1 (List.ofFn fun k : Fin 16 =>
      (⟨S19x1x512, piece (noNegInf (noInf (noNaN (signed (column V (k0_pay504 d) (places k))))))⟩ : (s : Shape) × (s.Idx → F .f32)))
    concatenates_S19x1x512_S19x1x512_S19x1x512_S19x1x512_S19x1x512_S19x1x512_S19x1x512_S19x1x512_S19x1x512_S19x1x512_S19x1x512_S19x1x512_S19x1x512_S19x1x512_S19x1x512_S19x1x512_S19x16x512_d1

/-- The state before the first round. -/
def start (v0 v2 : Vec F S19x19x512 .f32) : State F :=
  (k0_pay497 v0 v2, k0_pay500 k0_pay499 (Scalar.ofBits .f32 0x00000000#32), k0_pay501 (k0_pay497 v0 v2) k0_pay498)

theorem rounds_add (pm : Fin 19 → Vec F S1x20x20 .f32) (s : State F) (k n : Nat) (hk : k % 19 = 0) :
    rounds pm (rounds pm s k) n = rounds pm s (k + n) := by
  induction n with
  | zero => rfl
  | succ n ih =>
    show round _ _ (rounds pm (rounds pm s k) n) = round (rival ⟨(k + n) % 19, _⟩) (pm ⟨(k + n) % 19, _⟩) (rounds pm s (k + n))
    rw [ih]
    have h : (⟨n % 19, Nat.mod_lt _ (by decide)⟩ : Fin 19) = ⟨(k + n) % 19, Nat.mod_lt _ (by decide)⟩ := Fin.ext (by dsimp only; omega)
    rw [h]

theorem loop_eq (𝒱 : Variants) (c : Dev nD) (bd : Option 𝒱.V) (i : grid0.Coords) (arg1 : Memref sig .tc .vmem S19x20x20 .f32) (harg1 : arg1.IsWhole) (arg2 : Memref sig .tc .vmem S19x19x512 .f32) (harg2 : arg2.IsWhole) (arg3 : Memref sig .tc .vmem S19x19x512 .f32) (harg3 : arg3.IsWhole) (arg4 : Memref sig .tc .vmem S19x16x512 .f32) (harg4 : arg4.IsWhole) (v38 : FVec F S20x20x512 .f32) (v43 : FVec F S20x20 .f32) (v44 : FVec F S20x20x1 .f32) (cst_11 : F .f32) (X_arg1 : BufTy.Contents (Elt F) arg1.view.ty) (s : State F) (k : Nat) (hk : k ≤ 7) :
    st_k0_t1 (F := F) 𝒱 c bd i arg1 harg1 arg2 harg2 arg3 harg3 arg4 harg4 v38 v43 v44 cst_11 X_arg1 s k
      = rounds (games arg1 X_arg1) s (19 * k) := by
  induction k with
  | zero => rfl
  | succ k ih =>
    have ht : k < k0_t1_loop.trips := lt_of_lt_of_eq (Nat.lt_of_succ_le hk) (by decide)
    rw [st_k0_t1_succ 𝒱 c bd i arg1 harg1 arg2 harg2 arg3 harg3 arg4 harg4 v38 v43 v44 cst_11 X_arg1 s ⟨k, ht⟩, ih (by omega)]
    exact (sweep_eq ..).trans (rounds_add _ _ _ _ (by omega))

/-- The body's result. -/
theorem out_eq (c : Dev nD) (i : grid0.Coords) (arg1 : Memref sig .tc .vmem S19x20x20 .f32) (harg1 : arg1.IsWhole) (arg2 : Memref sig .tc .vmem S19x19x512 .f32) (harg2 : arg2.IsWhole) (arg3 : Memref sig .tc .vmem S19x19x512 .f32) (harg3 : arg3.IsWhole) (arg4 : Memref sig .tc .vmem S19x16x512 .f32) (harg4 : arg4.IsWhole)
    (x0 : Vec F S19x20x20 .f32) (x1 : Vec F S19x19x512 .f32) (x2 : Vec F S19x19x512 .f32) :
    kernelRun0_A.sl.r_41 c i arg1 harg1 arg2 harg2 arg3 harg3 arg4 harg4 x0 x1 x2
      = finish (rounds (games arg1 (harg1.unread x0))
          (start (View.readAt (Elt F) arg2.view (Rect.unit (s := S19x19x512) ![0, 0, 0] S19x19x512.size inb_S19x19x512_S19x19x512_0_0_0).toLoadRect (harg2.unread x1))
            (View.readAt (Elt F) arg3.view (Rect.unit (s := S19x19x512) ![0, 0, 0] S19x19x512.size inb_S19x19x512_S19x19x512_0_0_0).toLoadRect (harg3.unread x2))) 133).2.1
        (rounds (games arg1 (harg1.unread x0))
          (start (View.readAt (Elt F) arg2.view (Rect.unit (s := S19x19x512) ![0, 0, 0] S19x19x512.size inb_S19x19x512_S19x19x512_0_0_0).toLoadRect (harg2.unread x1))
            (View.readAt (Elt F) arg3.view (Rect.unit (s := S19x19x512) ![0, 0, 0] S19x19x512.size inb_S19x19x512_S19x19x512_0_0_0).toLoadRect (harg3.unread x2))) 133).2.2 := by
  rw [← loop_eq Variants.none c none i arg1 harg1 arg2 harg2 arg3 harg3 arg4 harg4
    (kernelRun0_A.sl.r c arg2 harg2 arg3 harg3 x1 x2) k0_pay498 k0_pay499 kernelRun0_A.sl.cst_11 (harg1.unread x0) _ 7 le_rfl]
  sl_kernel_rfl

end Cert.EigIdeal.Block

end
-- ==== Proof.EigSpec.lean ====
/-
  The positional encoding of one graph over the real numbers: the Laplacian of its weights, seven sweeps of plane
  rotations, the vectors in the order of their values, each with the sign that makes its sum nonnegative.
-/
module

public import proofs.«01_k».proof.Proof.JacobiTour

@[expose] public section

noncomputable section

namespace Cert.Jacobi

/-- The coefficient of the identity: the single-precision number next to `1 + 1e-5`. -/
def kappa : ℝ := 8388692 / 8388608

/-- The least degree: the single-precision number next to `1e-6`. -/
def least : ℝ := 8796093 / 8796093022208

/-- One over the root of a node's degree. -/
def scale (w : Fin 19 → Fin 19 → ℝ) (i : Fin 19) : ℝ := 1 / √(max least (∑ x, w i x))

/-- The Laplacian. -/
def lap (w : Fin 19 → Fin 19 → ℝ) (i j : Fin 19) : ℝ :=
  (if i = j then kappa else 0) - 1 / 2 * (scale w i * w i j * scale w j + scale w j * w j i * scale w i)

/-- The Laplacian with the bye's row and column. -/
def pad (w : Fin 19 → Fin 19 → ℝ) : Mat := fun i j =>
  if h : i.val < 19 then if h' : j.val < 19 then lap w ⟨i.val, h⟩ ⟨j.val, h'⟩ else 0
  else if j.val < 19 then 0 else 1000000

/-- The identity. -/
def unit : Mat := fun i j => if i = j then 1 else 0

/-- Index `i` comes before `j` in the order of the values `d`. -/
def before {n : Nat} (d : Fin n → ℝ) (i j : Fin n) : Prop := d i < d j ∨ d i = d j ∧ i < j

instance {n : Nat} (d : Fin n → ℝ) (i j : Fin n) : Decidable (before d i j) := Classical.propDecidable _

/-- How many come before `j`. -/
def rank {n : Nat} (d : Fin n → ℝ) (j : Fin n) : Nat := (Finset.univ.filter fun i => before d i j).card

/-- The vector in place `k`. -/
def inPlace {n : Nat} (V : Fin 20 → Fin n → ℝ) (d : Fin n → ℝ) (k : Nat) (i : Fin 20) : ℝ := ∑ x, V i x * if rank d x = k then 1 else 0

/-- The vector with its sign. -/
def oriented (v : Fin 20 → ℝ) (i : Fin 20) : ℝ := v i * if ∑ x : Fin 19, v x.castSucc < 0 then -1 else 1

/-- The state after the sweeps. -/
def swept (w : Fin 19 → Fin 19 → ℝ) : Mat × Mat := tour (pad w, unit) 133

/-- The positional encoding. -/
def encoding (w : Fin 19 → Fin 19 → ℝ) (k : Nat) (i : Fin 19) : ℝ :=
  oriented (inPlace (swept w).2 (fun i => (swept w).1 i i) k) i.castSucc

theorem pad_symm (w : Fin 19 → Fin 19 → ℝ) (i j : Fin 20) : pad w i j = pad w j i := by
  unfold pad
  split_ifs <;> first | rfl | skip
  unfold lap
  by_cases h : (⟨i.val, ‹_›⟩ : Fin 19) = ⟨j.val, ‹_›⟩
  · rw [if_pos h, if_pos h.symm]; ring
  · rw [if_neg h, if_neg fun e => h e.symm]; ring

theorem pad_bye (w : Fin 19 → Fin 19 → ℝ) : Bye 1000000 (pad w) := by
  intro i
  unfold pad
  have h9 : ¬ (19 : Fin 20).val < 19 := by decide
  by_cases h : i = 19
  · subst h; rw [dif_neg h9, if_neg h9, if_pos rfl]
  · have : i.val < 19 := by
      have := i.isLt
      have : i.val ≠ 19 := fun e => h (Fin.ext e)
      omega
    rw [dif_pos this, dif_neg h9, if_neg h]

theorem least_pos : 0 < least := by unfold least; norm_num

theorem scale_pos (w : Fin 19 → Fin 19 → ℝ) (i : Fin 19) : 0 < scale w i :=
  one_div_pos.mpr (Real.sqrt_pos.mpr (lt_max_of_lt_left least_pos))

theorem scale_sq (w : Fin 19 → Fin 19 → ℝ) (i : Fin 19) : scale w i ^ 2 * max least (∑ x, w i x) = 1 := by
  have h : 0 < max least (∑ x, w i x) := lt_max_of_lt_left least_pos
  unfold scale
  rw [div_pow, Real.sq_sqrt h.le, one_pow, one_div, inv_mul_cancel₀ h.ne']

/-- The size of an entry of the Laplacian, for weights between zero and one. -/
theorem scaled_le (w : Fin 19 → Fin 19 → ℝ) (h0 : ∀ i j, 0 ≤ w i j) (h1 : ∀ i j, w i j ≤ 1) (i j : Fin 19) :
    0 ≤ scale w i * w i j * scale w j ∧ scale w i * w i j * scale w j ≤ 1001 := by
  have pi := scale_pos w i
  have pj := scale_pos w j
  refine ⟨mul_nonneg (mul_nonneg pi.le (h0 i j)) pj.le, ?_⟩
  have hi := scale_sq w i
  have hj := scale_sq w j
  have mi : w i j ≤ max least (∑ x, w i x) := le_max_of_le_right (Finset.single_le_sum (f := fun x => w i x) (fun x _ => h0 i x) (Finset.mem_univ j))
  have mj : least ≤ max least (∑ x, w j x) := le_max_left _ _
  have a1 : (scale w i * w i j) ^ 2 ≤ 1 := by
    have : scale w i ^ 2 * w i j ≤ 1 := by rw [← hi]; exact mul_le_mul_of_nonneg_left mi (sq_nonneg _)
    calc (scale w i * w i j) ^ 2 = (scale w i ^ 2 * w i j) * w i j := by ring
      _ ≤ 1 * 1 := mul_le_mul this (h1 i j) (h0 i j) zero_le_one
      _ = 1 := by ring
  have a2 : scale w j ^ 2 ≤ 1001 ^ 2 := by
    have : scale w j ^ 2 * least ≤ 1 := by rw [← hj]; exact mul_le_mul_of_nonneg_left mj (sq_nonneg _)
    unfold least at this
    norm_num at this ⊢
    linarith
  have b1 : scale w i * w i j ≤ 1 := by nlinarith [mul_nonneg pi.le (h0 i j)]
  have b2 : scale w j ≤ 1001 := by nlinarith
  calc scale w i * w i j * scale w j ≤ 1 * 1001 := mul_le_mul b1 b2 pj.le zero_le_one
    _ = 1001 := by norm_num

theorem lap_sq_le (w : Fin 19 → Fin 19 → ℝ) (h0 : ∀ i j, 0 ≤ w i j) (h1 : ∀ i j, w i j ≤ 1) (i j : Fin 19) : lap w i j ^ 2 ≤ 1002 ^ 2 := by
  obtain ⟨a, b⟩ := scaled_le w h0 h1 i j
  obtain ⟨c, d⟩ := scaled_le w h0 h1 j i
  have e : 0 ≤ (if i = j then kappa else 0) ∧ (if i = j then kappa else 0) ≤ 1002 := by
    unfold kappa; split_ifs <;> norm_num
  have u : lap w i j ≤ 1002 := by unfold lap; linarith [e.2]
  have l : -1002 ≤ lap w i j := by unfold lap; linarith [e.1]
  nlinarith

/-- The bye's value exceeds every player's, whatever the sweeps. -/
theorem diag_lt (w : Fin 19 → Fin 19 → ℝ) (h0 : ∀ i j, 0 ≤ w i j) (h1 : ∀ i j, w i j ≤ 1) (i : Fin 19) :
    (swept w).1 i.castSucc i.castSucc < (swept w).1 19 19 := by
  have hb : (swept w).1 19 19 = 1000000 := by
    have := tour_bye 1000000 (pad w, unit) (pad_symm w) (pad_bye w) 133 19
    rwa [if_pos rfl] at this
  rw [hb]
  have h := tour_diag_sq 1000000 (pad w, unit) (pad_symm w) (pad_bye w) 133 i
  have hs : ∑ i : Fin 19, ∑ j : Fin 19, pad w i.castSucc j.castSucc ^ 2 ≤ 19 * (19 * 1002 ^ 2) := by
    have hp : ∀ i j : Fin 19, pad w i.castSucc j.castSucc = lap w i j := fun i j => by
      unfold pad
      rw [dif_pos (by exact i.isLt), dif_pos (by exact j.isLt)]
      rfl
    calc ∑ i : Fin 19, ∑ j : Fin 19, pad w i.castSucc j.castSucc ^ 2
        ≤ ∑ _i : Fin 19, ∑ _j : Fin 19, (1002 : ℝ) ^ 2 :=
          Finset.sum_le_sum fun i _ => Finset.sum_le_sum fun j _ => by rw [hp]; exact lap_sq_le w h0 h1 i j
      _ = _ := by simp
  have h' : (swept w).1 i.castSucc i.castSucc ^ 2 ≤ 19 * (19 * 1002 ^ 2) := h.trans hs
  nlinarith

/-! ## The order -/

theorem before_trans {n : Nat} (d : Fin n → ℝ) {i j k : Fin n} (h : before d i j) (h' : before d j k) : before d i k := by
  rcases h with h | ⟨h, h2⟩ <;> rcases h' with g | ⟨g, g2⟩
  · exact Or.inl (h.trans g)
  · exact Or.inl (g ▸ h)
  · exact Or.inl (h ▸ g)
  · exact Or.inr ⟨h.trans g, h2.trans g2⟩

theorem not_before {n : Nat} (d : Fin n → ℝ) (i : Fin n) : ¬ before d i i := fun h => by
  rcases h with h | ⟨-, h⟩ <;> exact lt_irrefl _ h

theorem before_total {n : Nat} (d : Fin n → ℝ) {i j : Fin n} (h : i ≠ j) : before d i j ∨ before d j i := by
  rcases lt_trichotomy (d i) (d j) with g | g | g
  · exact Or.inl (Or.inl g)
  · rcases lt_or_gt_of_ne h with e | e
    · exact Or.inl (Or.inr ⟨g, e⟩)
    · exact Or.inr (Or.inr ⟨g.symm, e⟩)
  · exact Or.inr (Or.inl g)

theorem rank_lt_of_before {n : Nat} (d : Fin n → ℝ) {i j : Fin n} (h : before d i j) : rank d i < rank d j := by
  refine Finset.card_lt_card ⟨fun x hx => ?_, fun hs => ?_⟩
  · rw [Finset.mem_filter] at hx ⊢
    exact ⟨hx.1, before_trans d hx.2 h⟩
  · have := hs (Finset.mem_filter.mpr ⟨Finset.mem_univ i, h⟩)
    exact not_before d i (Finset.mem_filter.mp this).2

theorem rank_inj {n : Nat} (d : Fin n → ℝ) {i j : Fin n} (h : rank d i = rank d j) : i = j := by
  by_contra hne
  rcases before_total d hne with b | b
  · exact absurd h (rank_lt_of_before d b).ne
  · exact absurd h (rank_lt_of_before d b).ne'

/-- A permutation along which the order increases lists the indices by rank. -/
theorem rank_of_increasing {n : Nat} (d : Fin n → ℝ) (π : Fin n → Fin n) (h : ∀ a b, a < b → before d (π a) (π b)) (k : Fin n) :
    rank d (π k) = k.val := by
  have inj : Function.Injective π := fun a b e => by
    by_contra hne
    rcases lt_or_gt_of_ne hne with g | g
    · exact not_before d (π b) (e ▸ h a b g)
    · exact not_before d (π b) (e ▸ h b a g)
  have bij := Finite.injective_iff_bijective.mp inj
  have : (Finset.univ.filter fun i => before d i (π k)) = (Finset.univ.filter fun a : Fin n => a < k).image π := by
    ext i
    obtain ⟨a, rfl⟩ := bij.2 i
    rw [Finset.mem_filter, Finset.mem_image]
    constructor
    · rintro ⟨-, hb⟩
      refine ⟨a, Finset.mem_filter.mpr ⟨Finset.mem_univ _, ?_⟩, rfl⟩
      by_contra hlt
      rcases lt_or_eq_of_le (not_lt.mp hlt) with g | g
      · exact not_before d _ (before_trans d hb (h k a g))
      · exact not_before d _ (g ▸ hb)
    · rintro ⟨b, hb, e⟩
      rw [← inj e]
      exact ⟨Finset.mem_univ _, h b k (Finset.mem_filter.mp hb).2⟩
  unfold rank
  rw [this, Finset.card_image_of_injective _ inj]
  have : (Finset.univ.filter fun a : Fin n => a < k) = Finset.Iio k := by ext; simp
  rw [this, Fin.card_Iio]

/-- With the last value above the others, the ranks of the others are those among themselves, and the last's is last. -/
theorem rank_castSucc {n : Nat} (d : Fin (n + 1) → ℝ) (h : ∀ i : Fin n, d i.castSucc < d (Fin.last n)) (j : Fin n) :
    rank d j.castSucc = rank (fun i => d i.castSucc) j := by
  unfold rank
  rw [Fin.univ_castSuccEmb, Finset.filter_cons_of_neg, Finset.filter_map, Finset.card_map]
  · congr 1
  · intro hb
    rcases hb with g | ⟨g, -⟩
    · exact absurd g (not_lt.mpr (h j).le)
    · exact absurd g (h j).ne'

theorem rank_last {n : Nat} (d : Fin (n + 1) → ℝ) (h : ∀ i : Fin n, d i.castSucc < d (Fin.last n)) : rank d (Fin.last n) = n := by
  unfold rank
  rw [Fin.univ_castSuccEmb, Finset.filter_cons_of_neg, Finset.filter_map, Finset.card_map]
  · rw [Finset.filter_true_of_mem]
    · simp
    · intro i _; exact Or.inl (h i)
  · exact not_before d _

/-- The vector in place `k`, read off a listing in the order. -/
theorem inPlace_eq (V : Mat) (d : Fin 20 → ℝ) (h : ∀ i : Fin 19, d i.castSucc < d 19) (π : Fin 19 → Fin 19)
    (hπ : ∀ a b, a < b → before (fun i : Fin 19 => d i.castSucc) (π a) (π b)) (k : Fin 19) (i : Fin 20) :
    inPlace V d k.val i = V i (π k).castSucc := by
  unfold inPlace
  rw [Fin.sum_univ_castSucc, rank_last d h, if_neg k.isLt.ne', mul_zero, add_zero, Finset.sum_eq_single (π k)]
  · rw [rank_castSucc d h, rank_of_increasing _ π hπ, if_pos rfl, mul_one]
  · intro x _ hx
    rw [rank_castSucc d h, if_neg, mul_zero]
    intro e
    exact hx (rank_inj _ (e.trans (rank_of_increasing _ π hπ k).symm))
  · intro hx; exact absurd (Finset.mem_univ _) hx

end Cert.Jacobi

end
-- ==== Proof.EigBody.lean ====
/-
  The first call's body at one graph of real weights: its start is the Laplacian with the bye and the identity, and its
  result is the graph's positional encoding.
-/
module

public import proofs.«01_k».proof.Proof.EigFinish
public import proofs.«01_k».proof.Proof.EigSpec

@[expose] public section

set_option maxRecDepth 16384

noncomputable section

open Idealize.ShloMosaic

namespace Cert.EigIdeal.Block

open Cert.EigIdeal.Gen Cert.Jacobi

theorem kappa_lit : Ideal.ofBits .f32 1065353300#32 = ((kappa : ℝ) : EReal) := by
  unfold kappa
  simp [Ideal.ofBits, Ideal.ieee, -EReal.coe_mul, -EReal.coe_neg]; norm_num

theorem half_lit : Ideal.ofBits .f32 1056964608#32 = ((1 / 2 : ℝ) : EReal) := by
  simp [Ideal.ofBits, Ideal.ieee, -EReal.coe_mul, -EReal.coe_neg]; norm_num

theorem least_lit : Ideal.ofBits .f32 897988541#32 = ((least : ℝ) : EReal) := by
  unfold least
  simp [Ideal.ofBits, Ideal.ieee, -EReal.coe_mul, -EReal.coe_neg]; norm_num

theorem bye_lit : Ideal.ofBits .f32 1232348160#32 = ((1000000 : ℝ) : EReal) := by
  simp [Ideal.ofBits, Ideal.ieee, -EReal.coe_mul, -EReal.coe_neg]; norm_num

theorem top_lit : Ideal.ofBits .f32 2139095040#32 = ⊤ := by
  simp [Ideal.ofBits, Ideal.ieee]

theorem bot_lit : Ideal.ofBits .f32 4286578688#32 = ⊥ := by
  simp [Ideal.ofBits, Ideal.ieee]

theorem places_lit (k : Fin 16) : Ideal.ofBits .f32 (places k) = (((k.val : ℕ) : ℝ) : EReal) := by
  fin_cases k <;> simp [places, Ideal.ofBits, Ideal.ieee, -EReal.coe_mul, -EReal.coe_neg] <;> norm_num

/-- A condition as a number. -/
theorem bit_real (p : Prop) [Decidable p] :
    (FloatOps.sitofp FTy.f32 (BitVec.setWidth 32 (BitVec.ofBool (decide p))) : Ideal .f32) = ((if p then 1 else 0 : ℝ) : EReal) := by
  split_ifs with h
  · rw [decide_eq_true h]
    show ((((1#32 : BitVec 32).toInt : ℤ) : ℝ) : EReal) = _
    simp
  · rw [decide_eq_false h]
    show ((((0#32 : BitVec 32).toInt : ℤ) : ℝ) : EReal) = _
    simp

theorem eq_bit (i j : Fin 20) : IntOp.cmpi .eq (BitVec.ofNat 32 i.val) (BitVec.ofNat 32 j.val) = BitVec.ofBool (decide (i = j)) := by
  revert i j; decide +kernel

theorem eq_bit19 (i j : Fin 19) : IntOp.cmpi .eq (BitVec.ofNat 32 i.val) (BitVec.ofNat 32 j.val) = BitVec.ofBool (decide (i = j)) := by
  revert i j; decide +kernel

theorem lt_bit (i j : Fin 20) : IntOp.cmpi .slt (BitVec.ofNat 32 i.val) (BitVec.ofNat 32 j.val) = BitVec.ofBool (decide (i < j)) := by
  revert i j; decide +kernel

/-- A node's scaling factor in the kernel. -/
theorem scale_real (w : Fin 19 → Fin 19 → ℝ) (i : Fin 19) :
    Ideal.rsqrt (max (Ideal.ofBits .f32 897988541#32) (∑ x, ((w i x : ℝ) : EReal))) = ((scale w i : ℝ) : EReal) := by
  simp only [least_lit]
  rw [sum_real, ← EReal.coe_strictMono.monotone.map_max, rsqrt_real (lt_max_of_lt_left least_pos)]
  rfl

theorem start_lap (v0 v2 : Vec Ideal S19x19x512 .f32) (g : Fin 512) (w : Fin 19 → Fin 19 → ℝ)
    (h0 : ∀ i j, v0 (ix3 i j g) = ((w i j : ℝ) : EReal)) (h2 : ∀ i j, v2 (ix3 i j g) = ((w j i : ℝ) : EReal)) (i j : Fin 20) :
    k0_pay497 v0 v2 (ix3 i j g) = ((Jacobi.pad w i j : ℝ) : EReal) := by
  pointwise [k0_pay497]
  unfold Jacobi.pad
  split_ifs with hi hj hj
  · have e := eq_bit19 ⟨i.val, hi⟩ ⟨j.val, hj⟩
    dsimp only at e
    have si := scale_real w ⟨i.val, hi⟩
    have sj := scale_real w ⟨j.val, hj⟩
    simp only [h0, h2]
    rw [e, bit_real, si, sj]
    simp only [kappa_lit, half_lit]
    simp only [← EReal.coe_mul, ← EReal.coe_add, ← EReal.coe_sub]
    congr 1
    unfold lap
    split_ifs <;> ring
  · simp
  · simp
  · exact bye_lit

theorem start_unit (i j : Fin 20) (g : Fin 512) :
    (k0_pay500 k0_pay499 (Scalar.ofBits .f32 0x00000000#32) : FVec Ideal S20x20x512 .f32) (ix3 i j g) = ((unit i j : ℝ) : EReal) := by
  pointwise [k0_pay500, k0_pay499, k0_pay498]
  rw [eq_bit, bit_real]
  simp [unit]

theorem start_diag (A : FVec Ideal S20x20x512 .f32) (g : Fin 512) (M : Mat) (hA : ∀ i j, A (ix3 i j g) = ((M i j : ℝ) : EReal)) (i : Fin 20) :
    k0_pay501 A k0_pay498 (ix2 i g) = ((M i i : ℝ) : EReal) := by
  pointwise [k0_pay501, k0_pay498]
  simp only [eq_bit, bit_real, hA, ← EReal.coe_mul, sum_real]
  congr 1
  simp

/-- The start is the Laplacian with the bye, the identity and the diagonal. -/
theorem start_at (v0 v2 : Vec Ideal S19x19x512 .f32) (g : Fin 512) (w : Fin 19 → Fin 19 → ℝ)
    (h0 : ∀ i j, v0 (ix3 i j g) = ((w i j : ℝ) : EReal)) (h2 : ∀ i j, v2 (ix3 i j g) = ((w j i : ℝ) : EReal)) :
    At (start v0 v2) g (Jacobi.pad w, unit) :=
  ⟨start_lap v0 v2 g w h0 h2, fun i j => start_unit i j g, start_diag _ g _ (start_lap v0 v2 g w h0 h2)⟩

theorem rank_at (d : FVec Ideal S20x512 .f32) (g : Fin 512) (D : Fin 20 → ℝ) (hd : ∀ i, d (ix2 i g) = ((D i : ℝ) : EReal)) (i : Fin 20) :
    k0_pay504 d (ix2 i g) = (((rank D i : ℕ) : ℝ) : EReal) := by
  pointwise [k0_pay504]
  simp only [lt_bit, hd, bit_real, ← EReal.coe_mul, ← EReal.coe_add, sum_real]
  congr 1
  unfold rank
  rw [Finset.card_filter]
  push_cast
  refine Finset.sum_congr rfl fun x _ => ?_
  simp only [EReal.coe_lt_coe_iff, EReal.coe_eq_coe_iff]
  by_cases h1 : D x < D i
  · rw [if_pos h1, if_neg h1.ne, if_pos (show before D x i from Or.inl h1)]; simp
  · by_cases h2 : D x = D i
    · by_cases h3 : x < i
      · rw [if_neg h1, if_pos h2, if_pos h3, if_pos (show before D x i from Or.inr ⟨h2, h3⟩)]; simp
      · rw [if_neg h1, if_neg h3, if_neg fun h : before D x i => h.elim h1 fun h => h3 h.2]; simp
    · rw [if_neg h1, if_neg h2, if_neg fun h : before D x i => h.elim h1 fun h => h2 h.1]; simp

theorem column_at (V : FVec Ideal S20x20x512 .f32) (d : FVec Ideal S20x512 .f32) (g : Fin 512) (M : Mat) (D : Fin 20 → ℝ)
    (hV : ∀ i j, V (ix3 i j g) = ((M i j : ℝ) : EReal)) (hd : ∀ i, d (ix2 i g) = ((D i : ℝ) : EReal)) (k : Fin 16) (i : Fin 20) :
    column V (k0_pay504 d) (places k) (ix2 i g) = ((inPlace M D k.val i : ℝ) : EReal) := by
  pointwise [column]
  simp only [rank_at d g D hd, places_lit, bit_real, hV, ← EReal.coe_mul, sum_real, EReal.coe_eq_coe_iff, Nat.cast_inj]
  rfl

theorem signed_at (col : FVec Ideal S20x512 .f32) (g : Fin 512) (v : Fin 20 → ℝ) (h : ∀ i, col (ix2 i g) = ((v i : ℝ) : EReal)) (i : Fin 20) :
    signed col (ix2 i g) = ((oriented v i : ℝ) : EReal) := by
  pointwise [signed, sumSign, colSum]
  have hs : (∑ x : Fin 19, col (ix2 ⟨x.val, by omega⟩ g)) = ((∑ x : Fin 19, v x.castSucc : ℝ) : EReal) := by
    rw [← sum_real]; exact Finset.sum_congr rfl fun x _ => h x.castSucc
  rw [hs, abs_real, h]
  unfold oriented
  generalize (∑ x : Fin 19, v x.castSucc : ℝ) = S
  have e0 : (0 : EReal) = ((0 : ℝ) : EReal) := rfl
  have e1 : (1 : EReal) = ((1 : ℝ) : EReal) := rfl
  rw [show Ideal.ofBits .f32 3212836864#32 = ((-1 : ℝ) : EReal) from neg_one_lit, e0, e1]
  rcases lt_trichotomy S 0 with hS | hS | hS
  · simp only [EReal.coe_lt_coe_iff, abs_pos.mpr hS.ne, if_true, hS, EReal.coe_eq_coe_iff]
    norm_num
  · subst hS
    simp
  · simp only [EReal.coe_lt_coe_iff, abs_pos.mpr hS.ne', if_true, not_lt.mpr hS.le, if_false, EReal.coe_eq_coe_iff]
    norm_num

theorem piece_at (x : FVec Ideal S20x512 .f32) (g : Fin 512) (v : Fin 20 → ℝ) (h : ∀ i, x (ix2 i g) = ((v i : ℝ) : EReal)) (i : Fin 19) :
    piece (noNegInf (noInf (noNaN x))) (ix3 i 0 g) = ((v i.castSucc : ℝ) : EReal) := by
  have hx : x (ix2 ⟨i.val, by omega⟩ g) = ((v i.castSucc : ℝ) : EReal) := h i.castSucc
  pointwise [piece, noNegInf, noInf, noNaN]
  rw [top_lit, bot_lit]
  simp only [hx, ne_eq, not_true_eq_false, if_false, EReal.coe_ne_top, EReal.coe_ne_bot]

theorem finish_at (V : FVec Ideal S20x20x512 .f32) (d : FVec Ideal S20x512 .f32) (g : Fin 512) (M : Mat) (D : Fin 20 → ℝ)
    (hV : ∀ i j, V (ix3 i j g) = ((M i j : ℝ) : EReal)) (hd : ∀ i, d (ix2 i g) = ((D i : ℝ) : EReal)) (i : Fin 19) (k : Fin 16) :
    finish V d (ix3 i k g) = ((oriented (inPlace M D k.val) i.castSucc : ℝ) : EReal) := by
  have hp : finish V d (ix3 i k g) = piece (noNegInf (noInf (noNaN (signed (column V (k0_pay504 d) (places k)))))) (ix3 i 0 g) := by
    pointwise [finish]
  rw [hp]
  exact piece_at _ g _ (signed_at _ g _ (column_at V d g M D hV hd k)) i

/-- The body's result at a graph of real weights. -/
theorem body_at (pm : Fin 19 → Vec Ideal S1x20x20 .f32) (h : ∀ r, IsTable (rival r) (pm r)) (v0 v2 : Vec Ideal S19x19x512 .f32) (g : Fin 512)
    (w : Fin 19 → Fin 19 → ℝ) (h0 : ∀ i j, v0 (ix3 i j g) = ((w i j : ℝ) : EReal)) (h2 : ∀ i j, v2 (ix3 i j g) = ((w j i : ℝ) : EReal))
    (i : Fin 19) (k : Fin 16) :
    finish (rounds pm (start v0 v2) 133).2.1 (rounds pm (start v0 v2) 133).2.2 (ix3 i k g) = ((encoding w k.val i : ℝ) : EReal) := by
  obtain ⟨-, hV, hd⟩ := rounds_at pm h (start v0 v2) g (Jacobi.pad w, unit) (pad_symm w) (start_at v0 v2 g w h0 h2) 133
  exact finish_at _ _ g _ _ hV hd i k

end Cert.EigIdeal.Block

end
-- ==== Proof.EigValue.lean ====
/-
  The first call's result array: what each grid point writes back is its block of one whole-array function, which at
  graph `g` is the graph's positional encoding; the blocks cover the array.
-/
module

public import proofs.«01_k».proof.Proof.Gen.EigIdeal.Value
public import proofs.«01_k».proof.Proof.EigBody
public import Idealize.ShloMosaic.Lib.WholeRead
public import Idealize.ShloMosaic.Lib.WritesUnit
public import Idealize.ShloMosaic.Lib.Pointwise.Reshape

@[expose] public section

set_option maxRecDepth 16384

noncomputable section

open Idealize.ShloMosaic Idealize.ShloMosaic.TcCoe Idealize.SL.Sem
open Idealize.ShloMosaic.Pipeline (Dat)

namespace Cert.EigIdeal.Whole

open Cert.EigIdeal Cert.EigIdeal.Gen Cert.EigIdeal.Block Cert.Jacobi

/-! ## The table of games -/

/-- The table's words: round `r`'s game of each player. -/
theorem table_words : ∀ (r : Fin 19) (i j : Fin 20), lit0t (r.val * 400 + i.val * 20 + j.val)
    = if j = rival r i then if i < j then 0x3F800000#32 else 0xBF800000#32 else 0x00000000#32 := by
  decide +kernel

theorem table_index (r : Fin 19) (i j : Fin 20) : (S19x20x20.rowMajor (ix3 r i j)).val = r.val * 400 + i.val * 20 + j.val := by
  rw [rowMajor_val3 (ix3 r i j) 400 20 (by decide) (by decide)]
  rfl

theorem table_entry (r : Fin 19) (i j : Fin 20) : Ideal.ofBits .f32 (lit0 (S19x20x20.rowMajor (ix3 r i j)))
    = (((if j = rival r i then if i < j then 1 else -1 else 0 : ℝ)) : EReal) := by
  have h : lit0 (S19x20x20.rowMajor (ix3 r i j)) = lit0t (r.val * 400 + i.val * 20 + j.val) := congrArg lit0t (table_index r i j)
  rw [h, table_words]
  split_ifs
  · exact Ideal.ofBits_one_f32
  · exact neg_one_lit
  · exact Ideal.ofBits_zero_f32

theorem games_apply (arg1 : Memref sig .tc .vmem S19x20x20 .f32) (harg1 : arg1.IsWhole) (x0 : Vec Ideal S19x20x20 .f32)
    (r : Fin 19) (i j : Fin 20) : games arg1 (harg1.unread x0) r (ix3 0 i j) = x0 (ix3 r i j) := by
  refine (harg1.readAt_unread x0 _ _).trans (congrArg x0 (funext fun a => Fin.ext ?_))
  match a with
  | ⟨0, _⟩ => show r.val + 1 * 0 = r.val; omega
  | ⟨1, _⟩ => show 0 + 1 * i.val = i.val; omega
  | ⟨2, _⟩ => show 0 + 1 * j.val = j.val; omega

theorem weights_apply (arg : Memref sig .tc .vmem S19x19x512 .f32) (harg : arg.IsWhole) (x : Vec Ideal S19x19x512 .f32)
    (i j : Fin 19) (g : Fin 512) :
    View.readAt (Elt Ideal) arg.view (Rect.unit (s := S19x19x512) ![0, 0, 0] S19x19x512.size inb_S19x19x512_S19x19x512_0_0_0).toLoadRect (harg.unread x) (ix3 i j g)
      = x (ix3 i j g) := by
  refine (harg.readAt_unread x _ _).trans (congrArg x (funext fun a => Fin.ext ?_))
  match a with
  | ⟨0, _⟩ => show 0 + 1 * i.val = i.val; omega
  | ⟨1, _⟩ => show 0 + 1 * j.val = j.val; omega
  | ⟨2, _⟩ => show 0 + 1 * g.val = g.val; omega

/-- The body's result at a grid point, at a graph of real weights. -/
theorem out_at (c : Dev nD) (t : Fin cfg0.N) (x0 : Vec Ideal S19x20x20 .f32) (x1 x2 : Vec Ideal S19x19x512 .f32) (g : Fin 512)
    (w : Fin 19 → Fin 19 → ℝ)
    (hx0 : ∀ r i j, x0 (ix3 r i j) = (((if j = rival r i then if i < j then 1 else -1 else 0 : ℝ)) : EReal))
    (hx1 : ∀ i j, x1 (ix3 i j g) = ((w i j : ℝ) : EReal)) (hx2 : ∀ i j, x2 (ix3 i j g) = ((w j i : ℝ) : EReal)) (i : Fin 19) (k : Fin 16) :
    out0_A_3 c (grid0.coords t) (ms0_0 t) (hs0_0 t) (ms0_1 t) (hs0_1 t) (ms0_2 t) (hs0_2 t) (ms0_3 t) (hs0_3 t) x0 x1 x2 (ix3 i k g)
      = ((encoding w k.val i : ℝ) : EReal) := by
  have h : out0_A_3 c (grid0.coords t) (ms0_0 t) (hs0_0 t) (ms0_1 t) (hs0_1 t) (ms0_2 t) (hs0_2 t) (ms0_3 t) (hs0_3 t) x0 x1 x2 (ix3 i k g)
      = kernelRun0_A.sl.r_41 c (grid0.coords t) (ms0_0 t) (hs0_0 t) (ms0_1 t) (hs0_1 t) (ms0_2 t) (hs0_2 t) (ms0_3 t) (hs0_3 t) x0 x1 x2 (ix3 i k g) := by
    refine View.read_writes_cons_unit_of_mem VO0_3 VO0_3.junk (off' := fun _ => 0) _ _ [] (ix3 i k g) (ix3 i k g) ?_ ?_
    · funext a; fin_cases a <;> rfl
    · intro a; exact (Nat.zero_add _).symm
  rw [h, out_eq]
  refine body_at _ (fun r i j => ?_) _ _ g w (fun i j => ?_) (fun i j => ?_) i k
  · exact (games_apply _ _ _ r i j).trans (hx0 r i j)
  · exact (weights_apply _ _ _ i j g).trans (hx1 i j)
  · exact (weights_apply _ _ _ i j g).trans (hx2 i j)

/-! ## The whole array -/

variable (m : (ℓ : Loc nD τ sig) → Buf (Elt Ideal) ℓ)

/-- The whole result array, of the graphs' weights. -/
def G (c : Dev nD) (w : Fin 8192 → Fin 19 → Fin 19 → ℝ) : Buf (Elt Ideal) ((c : Thread nD τ).loc main_v3) :=
  fun (y : S19x16x8192.Idx) => ((encoding (w (y 2)) (y 1).val (y 0) : ℝ) : EReal)

/-- Grid point `t`'s graph `g` is graph `512 t + g` of the array. -/
def graph (t : Fin cfg0.N) (g : Fin 512) : Fin 8192 := ⟨t.val * 512 + g.val, by
  have h1 := t.isLt; have h2 := g.isLt
  have hN : cfg0.N = 16 := N_0
  omega⟩

/-- The block indices of the tiled windows, decided over the grid. -/
theorem idx_facts : ∀ t : Fin cfg0.N,
    win0_1.index t = ![0, 0, t.val] ∧ win0_2.index t = ![0, 0, t.val] ∧ win0_3.index t = ![0, 0, t.val] :=
  (by decide +kernel : ∀ t : Fin grid0.N, win0_1.index t = ![0, 0, t.val] ∧ win0_2.index t = ![0, 0, t.val] ∧ win0_3.index t = ![0, 0, t.val])

/-- The table's block at every point is the table. -/
theorem iblk0_apply (c : Dev nD) (t : Fin cfg0.N) (r : Fin 19) (i j : Fin 20) :
    (iblk m c 0 t : S19x20x20.Idx → EReal) (ix3 r i j) = (V m c main_cst : S19x20x20.Idx → EReal) (ix3 r i j) := by
  refine congrArg (V m c main_cst : S19x20x20.Idx → EReal) (funext fun a => Fin.ext ?_)
  match a with
  | ⟨0, _⟩ => show 0 * 19 + 1 * r.val = r.val; omega
  | ⟨1, _⟩ => show 0 * 20 + 1 * i.val = i.val; omega
  | ⟨2, _⟩ => show 0 * 20 + 1 * j.val = j.val; omega

theorem iblk1_apply (c : Dev nD) (t : Fin cfg0.N) (i j : Fin 19) (g : Fin 512) :
    (iblk m c 1 t : S19x19x512.Idx → EReal) (ix3 i j g) = (V m c main_v1 : S19x19x8192.Idx → EReal) (ix3 i j (graph t g)) := by
  have h := (idx_facts t).1
  refine congrArg (V m c main_v1 : S19x19x8192.Idx → EReal) (funext fun a => Fin.ext ?_)
  match a with
  | ⟨0, _⟩ => show win0_1.index t 0 * 19 + 1 * i.val = _; rw [h]; show 0 * 19 + 1 * i.val = i.val; omega
  | ⟨1, _⟩ => show win0_1.index t 1 * 19 + 1 * j.val = _; rw [h]; show 0 * 19 + 1 * j.val = j.val; omega
  | ⟨2, _⟩ => show win0_1.index t 2 * 512 + 1 * g.val = _; rw [h]; show t.val * 512 + 1 * g.val = t.val * 512 + g.val; omega

theorem iblk2_apply (c : Dev nD) (t : Fin cfg0.N) (i j : Fin 19) (g : Fin 512) :
    (iblk m c 2 t : S19x19x512.Idx → EReal) (ix3 i j g) = (V m c main_v2 : S19x19x8192.Idx → EReal) (ix3 i j (graph t g)) := by
  have h := (idx_facts t).2.1
  refine congrArg (V m c main_v2 : S19x19x8192.Idx → EReal) (funext fun a => Fin.ext ?_)
  match a with
  | ⟨0, _⟩ => show win0_2.index t 0 * 19 + 1 * i.val = _; rw [h]; show 0 * 19 + 1 * i.val = i.val; omega
  | ⟨1, _⟩ => show win0_2.index t 1 * 19 + 1 * j.val = _; rw [h]; show 0 * 19 + 1 * j.val = j.val; omega
  | ⟨2, _⟩ => show win0_2.index t 2 * 512 + 1 * g.val = _; rw [h]; show t.val * 512 + 1 * g.val = t.val * 512 + g.val; omega

/-- The weights laid out by graphs. -/
def byGraph (X : S32x256x19x19.Idx → EReal) : S8192x19x19.Idx → EReal := shapeCast S8192x19x19 X shapeCasts_S32x256x19x19_S8192x19x19

theorem entry_table (c : Dev nD) (y : S19x20x20.Idx) :
    (V m c main_cst : S19x20x20.Idx → EReal) y = Ideal.ofBits .f32 (lit0 (S19x20x20.rowMajor y)) := by
  entry_read
  rfl

theorem entry_v1 (c : Dev nD) (i j : Fin 19) (g : Fin 8192) : (V m c main_v1 : S19x19x8192.Idx → EReal) (ix3 i j g)
    = byGraph (m ((c : Thread nD τ).loc main_arg0)) (ix3 g i j) := by
  entry_read
  rfl

theorem entry_v2 (c : Dev nD) (i j : Fin 19) (g : Fin 8192) : (V m c main_v2 : S19x19x8192.Idx → EReal) (ix3 i j g)
    = byGraph (m ((c : Thread nD τ).loc main_arg0)) (ix3 g j i) := by
  entry_read
  rfl

variable (c : Dev nD) (w : Fin 8192 → Fin 19 → Fin 19 → ℝ)
  (hw : ∀ g i j, byGraph (m ((c : Thread nD τ).loc main_arg0)) (ix3 g i j) = ((w g i j : ℝ) : EReal))
include hw

/-- What point `t` writes back is block `t` of `G`. -/
theorem flushed_eq (t : Fin cfg0.N) :
    (dats m 0 c).flushed 3 t = ((cfg0.win 3).blk t).view.read (Elt Ideal) (G c w) := by
  rw [Value.flushed3_A]
  funext y
  have hy : y = ix3 (y 0) (y 1) (y 2) := eq_ix3 y
  have h := (idx_facts t).2.2
  have e0 : (((cfg0.win 3).blk t).view.emb y : S19x16x8192.Idx) = ix3 (y 0) (y 1) (graph t (y 2)) := by
    funext a; refine Fin.ext ?_
    match a with
    | ⟨0, _⟩ => show win0_3.index t 0 * 19 + 1 * (y 0).val = _; rw [h]; show 0 * 19 + 1 * (y 0).val = (y 0).val; omega
    | ⟨1, _⟩ => show win0_3.index t 1 * 16 + 1 * (y 1).val = _; rw [h]; show 0 * 16 + 1 * (y 1).val = (y 1).val; omega
    | ⟨2, _⟩ => show win0_3.index t 2 * 512 + 1 * (y 2).val = _; rw [h]; show t.val * 512 + 1 * (y 2).val = t.val * 512 + (y 2).val; omega
  refine Eq.trans (b := out0_A_3 c (grid0.coords t) (ms0_0 t) (hs0_0 t) (ms0_1 t) (hs0_1 t) (ms0_2 t) (hs0_2 t) (ms0_3 t) (hs0_3 t) (iblk m c 0 t) (iblk m c 1 t) (iblk m c 2 t) (ix3 (y 0) (y 1) (y 2))) ?_ ?_
  · exact congrArg (out0_A_3 c (grid0.coords t) (ms0_0 t) (hs0_0 t) (ms0_1 t) (hs0_1 t) (ms0_2 t) (hs0_2 t) (ms0_3 t) (hs0_3 t) (iblk m c 0 t) (iblk m c 1 t) (iblk m c 2 t)) hy
  · refine Eq.trans ?_ (congrArg (G c w) e0).symm
    refine out_at c t _ _ _ (y 2) (w (graph t (y 2))) (fun r i j => ?_) (fun i j => ?_) (fun i j => ?_) (y 0) (y 1)
    · exact (iblk0_apply m c t r i j).trans ((entry_table m c _).trans (table_entry r i j))
    · exact (iblk1_apply m c t i j (y 2)).trans ((entry_v1 m c i j _).trans (hw _ i j))
    · exact (iblk2_apply m c t i j (y 2)).trans ((entry_v2 m c i j _).trans (hw _ j i))

omit hw in
/-- An index of the result array is in point `t`'s block when its graph is one of the point's. -/
theorem mem_blk (t : Fin cfg0.N) (i : S19x16x8192.Idx) :
    i ∈ ((cfg0.win 3).blk t).view.set ↔ t.val * 512 ≤ (i 2 : Nat) ∧ (i 2 : Nat) < t.val * 512 + 512 := by
  show i ∈ ((View.whole main_v3).slice (win0_3.rect t)).set ↔ _
  rw [View.set_slice_whole, Rect.mem_set_unit]
  have h := (idx_facts t).2.2
  have h0 : (i 0 : Nat) < 19 := (i 0).isLt
  have h1 : (i 1 : Nat) < 16 := (i 1).isLt
  refine ⟨fun hm => ?_, fun hm a => ?_⟩
  · have := hm 2
    change win0_3.index t 2 * 512 ≤ (i 2 : Nat) ∧ (i 2 : Nat) < win0_3.index t 2 * 512 + 512 at this
    rw [h] at this; exact this
  · match a with
    | ⟨0, _⟩ => show win0_3.index t 0 * 19 ≤ (i 0 : Nat) ∧ (i 0 : Nat) < win0_3.index t 0 * 19 + 19; rw [h]; show 0 * 19 ≤ (i 0 : Nat) ∧ (i 0 : Nat) < 0 * 19 + 19; omega
    | ⟨1, _⟩ => show win0_3.index t 1 * 16 ≤ (i 1 : Nat) ∧ (i 1 : Nat) < win0_3.index t 1 * 16 + 16; rw [h]; show 0 * 16 ≤ (i 1 : Nat) ∧ (i 1 : Nat) < 0 * 16 + 16; omega
    | ⟨2, _⟩ => show win0_3.index t 2 * 512 ≤ (i 2 : Nat) ∧ (i 2 : Nat) < win0_3.index t 2 * 512 + 512; rw [h]; exact hm

omit hw in
/-- The result's blocks cover its array. -/
theorem cover (i : S19x16x8192.Idx) :
    ∃ t : Fin cfg0.N, (cfg0.win 3).flush t = true ∧ i ∈ ((cfg0.win 3).blk t).view.set := by
  have h0 : (i 2 : Nat) < 8192 := (i 2).isLt
  have hN : cfg0.N = 16 := N_0
  refine ⟨⟨(i 2).val / 512, by omega⟩, flush0_3 _, ?_⟩
  rw [mem_blk]
  dsimp only
  omega

/-- So the result array ends as `G`. -/
theorem final : (dats m 0 c).arrAt 3 cfg0.N = G c w :=
  (dats m 0 c).arrAt_eq_of_cover 3 (G c w) (fun t _ => flushed_eq m c w hw t) cover

end Cert.EigIdeal.Whole

end
-- ==== Proof.JacobiStep.lean ====
/-
  One step of the reference's loop at one graph, over real entries: the products with the dense rotation matrix are one
  game of the tournament.
-/
module

public import proofs.«01_k».proof.Proof.Gen.JacobiIdeal.Step
public import proofs.«01_k».proof.Proof.JacobiTour
public import proofs.«01_k».proof.Proof.EigPlay

@[expose] public section

set_option maxRecDepth 16384

noncomputable section

namespace Cert.Jacobi

/-! ## The dense rotation -/

/-- The unit vector of a player, over the nodes; the bye's is zero. -/
def hot (p : Fin 20) (i : Fin 19) : ℝ := if i.castSucc = p then 1 else 0

/-- The dense matrix that turns the plane of `p` and `q` by the angle of tangent `t`. -/
def dense (p q : Fin 20) (t : ℝ) (i j : Fin 19) : ℝ :=
  (if i = j then 1 else 0) - (hot p i * hot p j + hot q i * hot q j) + cos t * (hot p i * hot p j + hot q i * hot q j)
    + t * cos t * (hot p i * hot q j - hot q i * hot p j)

theorem sum_hot (f : Fin 20 → ℝ) (p : Fin 20) (h : p ≠ 19) : ∑ y : Fin 19, f y.castSucc * hot p y = f p := by
  have hp : p.val < 19 := by have := p.isLt; have : p.val ≠ 19 := fun e => h (Fin.ext e); omega
  have hc : (⟨p.val, hp⟩ : Fin 19).castSucc = p := rfl
  rw [Finset.sum_eq_single ⟨p.val, hp⟩]
  · unfold hot; rw [if_pos hc, mul_one, hc]
  · intro y _ hy
    unfold hot
    rw [if_neg, mul_zero]
    intro e
    exact hy (Fin.ext (show y.val = p.val from e ▸ rfl))
  · intro hy; exact absurd (Finset.mem_univ _) hy

theorem hot_bye (i : Fin 19) : hot 19 i = 0 := if_neg fun e => by have := congrArg Fin.val e; have := i.isLt; simp at *; omega

theorem low_ne_bye : ∀ (r : Fin 19) (k : Fin 10), low r k ≠ 19 := by decide +kernel

/-- A row times the dense rotation. -/
theorem row_dense (r : Fin 19) (k : Fin 10) (t : ℝ) (ht : high r k = 19 → t = 0) (f : Fin 20 → ℝ) (j : Fin 19) :
    ∑ y : Fin 19, f y.castSucc * dense (low r k) (high r k) t y j
      = (if j.castSucc = low r k ∨ j.castSucc = high r k then cos t else 1) * f j.castSucc
        - (if j.castSucc = low r k then t * cos t else if j.castSucc = high r k then -(t * cos t) else 0) * f (rival r j.castSucc) := by
  have hd : ∑ y : Fin 19, f y.castSucc * (if y = j then 1 else 0) = f j.castSucc := by simp
  have hp := sum_hot f (low r k) (low_ne_bye r k)
  by_cases hq : high r k = 19
  · rw [ht hq, cos_zero]
    simp only [dense, cos_zero, zero_mul, neg_zero, ite_self, add_zero, one_mul, sub_add_cancel, sub_zero]
    exact hd
  · have hq' := sum_hot f (high r k) hq
    have : ∑ y : Fin 19, f y.castSucc * dense (low r k) (high r k) t y j
        = f j.castSucc + (cos t - 1) * (f (low r k) * hot (low r k) j + f (high r k) * hot (high r k) j)
          + t * cos t * (f (low r k) * hot (high r k) j - f (high r k) * hot (low r k) j) := by
      rw [← hp, ← hq', ← hd]
      simp only [Finset.sum_mul, ← Finset.sum_add_distrib, ← Finset.sum_sub_distrib, Finset.mul_sum]
      refine Finset.sum_congr rfl fun y _ => ?_
      unfold dense
      ring
    rw [this]
    have hne := low_lt_high r k
    by_cases h1 : j.castSucc = low r k
    · have h2 : j.castSucc ≠ high r k := h1 ▸ hne.ne
      rw [if_pos (Or.inl h1), if_pos h1]
      unfold hot
      rw [if_pos h1, if_neg h2, h1, rival_low]
      ring
    · by_cases h2 : j.castSucc = high r k
      · rw [if_pos (Or.inr h2), if_neg h1, if_pos h2]
        unfold hot
        rw [if_neg h1, if_pos h2, h2, rival_high]
        ring
      · rw [if_neg (by tauto), if_neg h1, if_neg h2]
        unfold hot
        rw [if_neg h1, if_neg h2]
        ring

/-- The angle of the game with the bye is zero. -/
theorem gameTan_bye (r : Fin 19) (k : Fin 10) (β : ℝ) (A : Mat) (hA : Bye β A) (h : high r k = 19) : gameTan r k A = 0 := by
  unfold gameTan
  have : A (low r k) (high r k) = 0 := by rw [h, hA, if_neg (low_ne_bye r k)]
  rw [this, tan_zero]

/-- The vectors times the dense rotation are the vectors after the game. -/
theorem playOne_snd_dense (r : Fin 19) (k : Fin 10) (β : ℝ) (s : Mat × Mat) (hA : Bye β s.1) (i : Fin 20) (j : Fin 19) :
    ∑ y : Fin 19, s.2 i y.castSucc * dense (low r k) (high r k) (gameTan r k s.1) y j = (playOne r k s).2 i j.castSucc :=
  row_dense r k _ (gameTan_bye r k β s.1 hA) (s.2 i) j

/-- The matrix between the dense rotation and its transpose is the matrix after the game. -/
theorem playOne_fst_dense (r : Fin 19) (k : Fin 10) (β : ℝ) (s : Mat × Mat) (hA : Bye β s.1) (i j : Fin 19) :
    ∑ x : Fin 19, dense (low r k) (high r k) (gameTan r k s.1) x i
        * ∑ y : Fin 19, s.1 x.castSucc y.castSucc * dense (low r k) (high r k) (gameTan r k s.1) y j
      = (playOne r k s).1 i.castSucc j.castSucc := by
  have ht := gameTan_bye r k β s.1 hA
  simp only [fun x : Fin 19 => row_dense r k _ ht (s.1 x.castSucc) j]
  simp only [mul_comm (dense _ _ _ _ _)]
  refine (row_dense r k _ ht (fun x : Fin 20 => (if j.castSucc = low r k ∨ j.castSucc = high r k then cos (gameTan r k s.1) else 1) * s.1 x j.castSucc
        - (if j.castSucc = low r k then gameTan r k s.1 * cos (gameTan r k s.1) else if j.castSucc = high r k then -(gameTan r k s.1 * cos (gameTan r k s.1)) else 0)
          * s.1 x (rival r j.castSucc)) i).trans ?_
  show _ = turn (rival r) (gameCos r k s.1) (gameSin r k s.1) s.1 i.castSucc j.castSucc
  unfold turn gameCos gameSin
  ring

theorem playOne_symm (r : Fin 19) (k : Fin 10) (s : Mat × Mat) (hA : ∀ i j, s.1 i j = s.1 j i) (i j : Fin 20) :
    (playOne r k s).1 i j = (playOne r k s).1 j i := turn_symm _ _ _ _ hA i j

/-- A game leaves the bye's row and column. -/
theorem playOne_bye (r : Fin 19) (k : Fin 10) (β : ℝ) (s : Mat × Mat) (hA : Bye β s.1) : Bye β (playOne r k s).1 := by
  intro i
  show turn (rival r) (gameCos r k s.1) (gameSin r k s.1) s.1 i 19 = _
  have ht := gameTan_bye r k β s.1 hA
  have hl := low_ne_bye r k
  have c9 : gameCos r k s.1 19 = 1 := by
    unfold gameCos
    split_ifs with h
    · rcases h with h | h
      · exact absurd h.symm hl
      · rw [ht h.symm, cos_zero]
    · rfl
  have s9 : gameSin r k s.1 19 = 0 := by
    unfold gameSin
    rw [if_neg fun h => hl h.symm]
    split_ifs with h
    · rw [ht h.symm, zero_mul, neg_zero]
    · rfl
  unfold turn
  rw [c9, s9, hA i, hA (rival r i)]
  by_cases hi : i = 19
  · subst hi
    rw [c9, s9, if_pos rfl]; ring
  · rw [if_neg hi]
    by_cases hr : rival r i = 19
    · rw [if_pos hr]
      have : gameSin r k s.1 i = 0 := by
        unfold gameSin
        split_ifs with h1 h2
        · rw [ht (by rw [← rival_low, ← h1, hr]), zero_mul]
        · exfalso; rw [h2, rival_high] at hr; exact hl hr
        · rfl
      rw [this]; ring
    · rw [if_neg hr]; ring

theorem turns_symm (s : Mat × Mat) (hA : ∀ i j, s.1 i j = s.1 j i) (n : Nat) : ∀ i j, (turns s n).1 i j = (turns s n).1 j i := by
  induction n with
  | zero => exact hA
  | succ n ih => exact playOne_symm _ _ _ ih

theorem turns_bye (β : ℝ) (s : Mat × Mat) (hA : Bye β s.1) (n : Nat) : Bye β (turns s n).1 := by
  induction n with
  | zero => exact hA
  | succ n ih => exact playOne_bye _ _ _ _ ih

end Cert.Jacobi

namespace Cert.JacobiIdeal.Graph

open Idealize.ShloMosaic Cert.JacobiIdeal Cert.JacobiIdeal.Step Cert.Jacobi

/-! ## The players -/

theorem players : ∀ j : Fin 1330,
    IntOp.minsi
      (Scalar.select (IntOp.cmpi CmpIPredicate.eq (IntOp.remsi ArithUnit.host (BitVec.ofNat 32 j.val) 10#32) 0#32) (0#32)
        (IntOp.addi (1#32) (IntOp.remsi ArithUnit.host (IntOp.addi (IntOp.addi (IntOp.divsi ArithUnit.host (IntOp.remsi ArithUnit.host (BitVec.ofNat 32 j.val) 190#32) 10#32) 18#32)
              (IntOp.remsi ArithUnit.host (BitVec.ofNat 32 j.val) 10#32)) 19#32)))
      (IntOp.addi (1#32) (IntOp.remsi ArithUnit.host (IntOp.subi (IntOp.addi (IntOp.divsi ArithUnit.host (IntOp.remsi ArithUnit.host (BitVec.ofNat 32 j.val) 190#32) 10#32) 18#32)
            (IntOp.remsi ArithUnit.host (BitVec.ofNat 32 j.val) 10#32)) 19#32))
      = BitVec.ofNat 32 (low ⟨j.val % 190 / 10, by omega⟩ ⟨j.val % 10, Nat.mod_lt _ (by decide)⟩).val
    ∧ IntOp.maxsi
      (Scalar.select (IntOp.cmpi CmpIPredicate.eq (IntOp.remsi ArithUnit.host (BitVec.ofNat 32 j.val) 10#32) 0#32) (0#32)
        (IntOp.addi (1#32) (IntOp.remsi ArithUnit.host (IntOp.addi (IntOp.addi (IntOp.divsi ArithUnit.host (IntOp.remsi ArithUnit.host (BitVec.ofNat 32 j.val) 190#32) 10#32) 18#32)
              (IntOp.remsi ArithUnit.host (BitVec.ofNat 32 j.val) 10#32)) 19#32)))
      (IntOp.addi (1#32) (IntOp.remsi ArithUnit.host (IntOp.subi (IntOp.addi (IntOp.divsi ArithUnit.host (IntOp.remsi ArithUnit.host (BitVec.ofNat 32 j.val) 190#32) 10#32) 18#32)
            (IntOp.remsi ArithUnit.host (BitVec.ofNat 32 j.val) 10#32)) 19#32))
      = BitVec.ofNat 32 (high ⟨j.val % 190 / 10, by omega⟩ ⟨j.val % 10, Nat.mod_lt _ (by decide)⟩).val := by
  decide +kernel

/-- The step's round and game. -/
def roundOf (j : Nat) : Fin 19 := ⟨j % 190 / 10, by omega⟩
def gameOf (j : Nat) : Fin 10 := ⟨j % 10, Nat.mod_lt _ (by decide)⟩

theorem low_apply (j : ℕ) (hj : j < 1330) (s : State Ideal) : b28 j s ix0 = BitVec.ofNat 32 (low (roundOf j) (gameOf j)).val := by
  pointwise [b28, b26, b18, b25, b9, b17, b16, b15, b14, b12, b11, b5, b10, b7, b13, b24, b23, b21, b20, b19, b22, b3, b2, b6, b4, b8, b1, b0]
  exact (players ⟨j, hj⟩).1

theorem high_apply (j : ℕ) (hj : j < 1330) (s : State Ideal) : b32 j s ix0 = BitVec.ofNat 32 (high (roundOf j) (gameOf j)).val := by
  pointwise [b32, b27, b18, b25, b9, b17, b16, b15, b14, b12, b11, b5, b10, b7, b13, b24, b23, b21, b20, b19, b22, b3, b2, b6, b4, b8, b1, b0]
  exact (players ⟨j, hj⟩).2

theorem bit_real (p : Prop) [Decidable p] :
    (FloatOps.uitofp FTy.f32 (BitVec.ofBool (decide p)) : Ideal .f32) = ((if p then 1 else 0 : ℝ) : EReal) := by
  split_ifs with h
  · rw [decide_eq_true h]
    show ((((1#1 : BitVec 1).toNat : ℕ) : ℝ) : EReal) = _
    simp
  · rw [decide_eq_false h]
    show ((((0#1 : BitVec 1).toNat : ℕ) : ℝ) : EReal) = _
    simp

theorem hot_bit (i : Fin 19) (p : Fin 20) : IntOp.cmpi .eq (BitVec.ofNat 32 i.val) (BitVec.ofNat 32 p.val) = BitVec.ofBool (decide (i.castSucc = p)) := by
  revert i p; decide +kernel

theorem eye_bit (i j : Fin 19) : IntOp.cmpi .eq (IntOp.addi (BitVec.ofNat 32 i.val) 0#32) (BitVec.ofNat 32 j.val) = BitVec.ofBool (decide (i = j)) := by
  revert i j; decide +kernel

theorem low_hot (j : ℕ) (hj : j < 1330) (s : State Ideal) (i : Fin 19) :
    b31 j s (ix1 i) = ((hot (low (roundOf j) (gameOf j)) i : ℝ) : EReal) := by
  pointwise [b31, b30, b29, K_main_v27]
  rw [low_apply j hj, hot_bit, bit_real]
  rfl

theorem high_hot (j : ℕ) (hj : j < 1330) (s : State Ideal) (i : Fin 19) :
    b35 j s (ix1 i) = ((hot (high (roundOf j) (gameOf j)) i : ℝ) : EReal) := by
  pointwise [b35, b34, b33, K_main_v27]
  rw [high_apply j hj, hot_bit, bit_real]
  rfl

theorem eye_real (i j : Fin 19) : K_main_v6 (F := Ideal) (ix2 i j) = ((if i = j then 1 else 0 : ℝ) : EReal) := by
  pointwise [K_main_v6, K_main_v5, K_main_v4, K_main_v3, K_main_c, K_main_v2, K_main_v1]
  rw [eye_bit, bit_real]

/-! ## The step -/

/-- Graph `g`'s entries are real: the matrix and the vectors, without the bye. -/
def At (s : State Ideal) (g : Fin 8192) (M : Mat × Mat) : Prop :=
  (∀ i j : Fin 19, s.main_v29_4 (ix3 g i j) = ((M.1 i.castSucc j.castSucc : ℝ) : EReal))
    ∧ ∀ i j : Fin 19, s.main_v29_5 (ix3 g i j) = ((M.2 i.castSucc j.castSucc : ℝ) : EReal)

open Cert.EigIdeal.Block (sum_real div_real sqrt_real abs_real two_lit neg_one_lit)

variable (j : ℕ) (hj : j < 1330) (s : State Ideal) (g : Fin 8192) (M : Mat × Mat) (hs : At s g M)
include hj hs

theorem app_real : b37 j s (ix1 g) = ((M.1 (low (roundOf j) (gameOf j)) (low (roundOf j) (gameOf j)) : ℝ) : EReal) := by
  pointwise [b37, b36]
  simp only [low_hot j hj, hs.1, ← EReal.coe_mul, sum_real]
  congr 1
  have h := low_ne_bye (roundOf j) (gameOf j)
  simp only [fun x : Fin 19 => sum_hot (M.1 x.castSucc) _ h]
  exact sum_hot (fun x => M.1 x _) _ h

theorem apq_real (β : ℝ) (hA : Bye β M.1) :
    b39 j s (ix1 g) = ((M.1 (low (roundOf j) (gameOf j)) (high (roundOf j) (gameOf j)) : ℝ) : EReal) := by
  pointwise [b39, b38]
  simp only [low_hot j hj, high_hot j hj, hs.1, ← EReal.coe_mul, sum_real]
  congr 1
  have h := low_ne_bye (roundOf j) (gameOf j)
  by_cases hq : high (roundOf j) (gameOf j) = 19
  · rw [hq, hA, if_neg h]
    simp [hot_bye]
  · simp only [fun x : Fin 19 => sum_hot (M.1 x.castSucc) _ hq]
    exact sum_hot (fun x => M.1 x _) _ h

theorem aqq_real (h : high (roundOf j) (gameOf j) ≠ 19) :
    b41 j s (ix1 g) = ((M.1 (high (roundOf j) (gameOf j)) (high (roundOf j) (gameOf j)) : ℝ) : EReal) := by
  pointwise [b41, b40]
  simp only [high_hot j hj, hs.1, ← EReal.coe_mul, sum_real]
  congr 1
  simp only [fun x : Fin 19 => sum_hot (M.1 x.castSucc) _ h]
  exact sum_hot (fun x => M.1 x _) _ h

/-- The tangent. -/
theorem tan_real (β : ℝ) (hA : Bye β M.1) : b70 j s (ix1 g) = ((gameTan (roundOf j) (gameOf j) M.1 : ℝ) : EReal) := by
  pointwise [b70, b69, b68, b67, b66, b65, b64, b63, b62, b61, b60, b59, b58, b57, b56, b55, b54, b53, b52, b51, b50, b49, b48, b47, b46, b45, b44, b43, b42]
  rw [apq_real j hj s g M hs β hA]
  unfold gameTan Jacobi.tan
  by_cases hx : M.1 (low (roundOf j) (gameOf j)) (high (roundOf j) (gameOf j)) = 0
  · rw [hx, if_pos EReal.coe_zero, if_pos rfl, EReal.coe_zero]
  · have hq : high (roundOf j) (gameOf j) ≠ 19 := fun hq => hx (by rw [hq, hA, if_neg (low_ne_bye _ _)])
    rw [app_real j hj s g M hs, aqq_real j hj s g M hs hq, if_neg hx, if_neg (by exact_mod_cast hx)]
    simp only [two_lit, ← EReal.coe_mul, ← EReal.coe_sub]
    rw [div_real _ (mul_ne_zero two_ne_zero hx), abs_real]
    generalize (M.1 (high (roundOf j) (gameOf j)) (high (roundOf j) (gameOf j)) - M.1 (low (roundOf j) (gameOf j)) (low (roundOf j) (gameOf j)))
      / (2 * M.1 (low (roundOf j) (gameOf j)) (high (roundOf j) (gameOf j))) = θ
    have hpos : 0 ≤ θ * θ + 1 := by nlinarith [mul_self_nonneg θ]
    have e1 : (1 : EReal) = ((1 : ℝ) : EReal) := rfl
    have e0 : (0 : EReal) = ((0 : ℝ) : EReal) := rfl
    rw [show Ideal.ofBits .f32 3212836864#32 = ((-1 : ℝ) : EReal) from neg_one_lit, e1, e0]
    rw [← EReal.coe_mul, ← EReal.coe_add, sqrt_real hpos, ← EReal.coe_add]
    have hden : |θ| + √(θ * θ + 1) ≠ 0 := by
      have : 0 < √(θ * θ + 1) := Real.sqrt_pos.mpr (by nlinarith [mul_self_nonneg θ])
      have := abs_nonneg θ
      positivity
    simp only [EReal.coe_le_coe_iff]
    split_ifs <;> exact div_real _ hden

/-- The cosine and the sine. -/
theorem cos_real (β : ℝ) (hA : Bye β M.1) : b78 j s (ix1 g) = ((cos (gameTan (roundOf j) (gameOf j) M.1) : ℝ) : EReal) := by
  pointwise [b78, b77, b76, b75, b74, b73, b72, b71]
  rw [tan_real j hj s g M hs β hA]
  generalize gameTan (roundOf j) (gameOf j) M.1 = t
  have hpos : 0 < t * t + 1 := by nlinarith [mul_self_nonneg t]
  have e1 : (1 : EReal) = ((1 : ℝ) : EReal) := rfl
  rw [e1, ← EReal.coe_mul, ← EReal.coe_add, sqrt_real hpos.le, div_real _ (Real.sqrt_pos.mpr hpos).ne']
  rfl

theorem sin_real (β : ℝ) (hA : Bye β M.1) : b79 j s (ix1 g)
    = ((gameTan (roundOf j) (gameOf j) M.1 * cos (gameTan (roundOf j) (gameOf j) M.1) : ℝ) : EReal) := by
  pointwise [b79]
  rw [tan_real j hj s g M hs β hA, cos_real j hj s g M hs β hA, ← EReal.coe_mul]

/-- The dense rotation. -/
theorem dense_real (β : ℝ) (hA : Bye β M.1) (x y : Fin 19) : b116 j s (ix3 g x y)
    = ((dense (low (roundOf j) (gameOf j)) (high (roundOf j) (gameOf j)) (gameTan (roundOf j) (gameOf j) M.1) x y : ℝ) : EReal) := by
  pointwise [b116, b115, b114, b113, b112, b111, b110, b109, b108, b107, b106, b105, b104, b103, b102, b101, b100, b99, b98, b97, b96, b95, b94, b93, b92, b91, b90, b89, b88, b87, b86, b85, b84, b83, b82, b81, b80]
  rw [eye_real, cos_real j hj s g M hs β hA, sin_real j hj s g M hs β hA]
  simp only [low_hot j hj, high_hot j hj, ← EReal.coe_mul, ← EReal.coe_add, ← EReal.coe_sub]
  rfl

/-- The step is one game. -/
theorem step_at (β : ℝ) (hA : Bye β M.1) : At (step j s) g (playOne (roundOf j) (gameOf j) M) := by
  refine ⟨fun x y => ?_, fun x y => ?_⟩
  · rw [step_main_v29_4]
    pointwise [b119, b118, b117]
    simp only [dense_real j hj s g M hs β hA, hs.1, ← EReal.coe_mul, sum_real]
    congr 1
    exact playOne_fst_dense _ _ β M hA x y
  · rw [step_main_v29_5]
    pointwise [b120]
    simp only [dense_real j hj s g M hs β hA, hs.2, ← EReal.coe_mul, sum_real]
    congr 1
    exact playOne_snd_dense _ _ β M hA x.castSucc y

end Cert.JacobiIdeal.Graph

end
-- ==== Proof.JacobiResult.lean ====
/-
  What the reference makes of its last state, at one graph of real entries: the vectors in the order of their values, each
  with its sign.
-/
module

public import proofs.«01_k».proof.Proof.JacobiStep
public import proofs.«01_k».proof.Proof.EigBody
public import Idealize.ShloMosaic.Lib.SortFacts

@[expose] public section

set_option maxRecDepth 16384

noncomputable section

namespace Cert.Jacobi

open Idealize.ShloMosaic

/-! ## The stable order -/

/-- A stable sort by the values is the sort by the values and then the indices. -/
theorem stableSort_before {n : Nat} (d : Fin n → ℝ) (l : List (Fin n)) (hl : l.Pairwise (· < ·)) :
    stableSort (fun a b => decide (d a < d b)) l = stableSort (fun a b => decide (before d a b)) l := by
  induction l with
  | nil => rfl
  | cons a l ih =>
    rw [List.pairwise_cons] at hl
    unfold stableSort
    rw [ih hl.2]
    refine insertBefore_congr _ _ _ _ fun b hb => ?_
    have hab : a < b := hl.1 b ((perm_stableSort _ l).mem_iff.mp hb)
    have : d b < d a ↔ before d b a := ⟨Or.inl, fun h => h.elim id fun h => absurd h.2 (not_lt.mpr hab.le)⟩
    exact decide_eq_decide.mpr this

/-- The positions of the stable sort by the values increase in the order. -/
theorem before_sortedFrom {n : Nat} (d : Fin n → ℝ) (i j : Fin n) (hij : i < j) :
    before d (sortedFrom (fun a b => decide (d a < d b)) i) (sortedFrom (fun a b => decide (d a < d b)) j) := by
  have e : ∀ k, sortedFrom (fun a b => decide (d a < d b)) k = sortedFrom (fun a b => decide (before d a b)) k := fun k => by
    unfold sortedFrom
    rw [List.get_of_eq (show sortPositions n (fun a b => decide (d a < d b)) = sortPositions n (fun a b => decide (before d a b)) from
      stableSort_before d _ (List.pairwise_lt_finRange n))]
    rfl
  rw [e, e]
  have h := sortedFrom_noInversion (fun a b => decide (before d a b)) (fun a b => decide (before d a b))
    (fun a b h => decide_eq_false fun h' => not_before d a (before_trans d (of_decide_eq_true h) h'))
    (fun _ _ h => h)
    (fun a b c h h' => decide_eq_false fun hac => by
      have h := of_decide_eq_false h
      have h' := of_decide_eq_false h'
      by_cases hab : a = b
      · exact h' (hab ▸ hac)
      · exact h' (before_trans d ((before_total d hab).resolve_left h) hac))
    i j hij
  have hne : sortedFrom (fun a b => decide (before d a b)) i ≠ sortedFrom (fun a b => decide (before d a b)) j := fun e =>
    hij.ne (sortedFrom_injective _ e)
  exact (before_total d hne).resolve_right (of_decide_eq_false h)

end Cert.Jacobi

namespace Cert.JacobiIdeal.Graph

open Idealize.ShloMosaic Cert.JacobiIdeal Cert.JacobiIdeal.Step Cert.Jacobi Facts₀ Facts
open Cert.EigIdeal.Block (top_lit bot_lit sum_real)

variable {F : FTy → Type} [FloatOps F]

/-! ## The pieces -/

/-- The identity, made anew. -/
def identity : FVec F S19x19 .f32 :=
  uitofp .f32 (cmpi .eq (addi (iotaInDim S19x19 32 0) (broadcastInDim S19x19 ![] bcast_S_S19x19 (constantI S_ 32 0#32))) (iotaInDim S19x19 32 1))

/-- The matrices' diagonals. -/
def diagonal (A : FVec F S8192x19x19 .f32) : FVec F S8192x19 .f32 :=
  Host.reduceAdd (mulf A (broadcastInDim S8192x19x19 ![0, 1, 2] bcast_S1x19x19_S8192x19x19_0_1_2 (broadcastInDim S1x19x19 ![1, 2] bcast_S19x19_S1x19x19_1_2 identity)))
    (constant S_ .f32 0x00000000#32) reducesTo_S8192x19x19_S8192x19_d2 h_S_

/-- The diagonals, one to a row. -/
def values (A : FVec F S8192x19x19 .f32) : FVec F S8192x19x19 .f32 :=
  broadcastInDim S8192x19x19 ![0, 1, 2] bcast_S8192x1x19_S8192x19x19_0_1_2 (broadcastInDim S8192x1x19 ![0, 2] bcast_S8192x19_S8192x1x19_0_2 (diagonal A))

/-- The first sixteen vectors in the order of the values. -/
def firstVectors (A V : FVec F S8192x19x19 .f32) : FVec F S8192x19x16 .f32 :=
  extractStridedSlice S8192x19x16 ![0, 0, 0] (Host.sort2 S8192x19x19 2 comparator_f32_f32_d2 (values A) V).2 slices_S8192x19x19_S8192x19x16_0_0_0

/-- The signs of their sums. -/
def signs (W : FVec F S8192x19x16 .f32) : FVec F S8192x1x16 .f32 :=
  Host.sign (broadcastInDim S8192x1x16 ![0, 2] bcast_S8192x16_S8192x1x16_0_2 (Host.reduceAdd W (constant S_ .f32 0x00000000#32) reducesTo_S8192x19x16_S8192x16_d1 h_S_))

/-- The vectors with their signs. -/
def oriented (W : FVec F S8192x19x16 .f32) : FVec F S8192x19x16 .f32 :=
  mulf W (broadcastInDim S8192x19x16 ![0, 1, 2] bcast_S8192x1x16_S8192x19x16_0_1_2
    (select (cmpf .oeq (signs W) (broadcastInDim S8192x1x16 ![] bcast_S_S8192x1x16 (constant S_ .f32 0x00000000#32)))
      (broadcastInDim S8192x1x16 ![] bcast_S_S8192x1x16 (constant S_ .f32 0x3F800000#32)) (signs W)))

/-- No-number and infinities replaced. -/
def noNaN (X : FVec F S8192x19x16 .f32) : FVec F S8192x19x16 .f32 :=
  select (cmpf .une X X) (broadcastInDim S8192x19x16 ![] bcast_S_S8192x19x16 (id (constant S_ .f32 0x00000000#32))) X
def noInf (X : FVec F S8192x19x16 .f32) : FVec F S8192x19x16 .f32 :=
  select (cmpf .oeq X (broadcastInDim S8192x19x16 ![] bcast_S_S8192x19x16 (constant S_ .f32 0x7F800000#32)))
    (broadcastInDim S8192x19x16 ![] bcast_S_S8192x19x16 (id (constant S_ .f32 0x3F800000#32))) X
def noNegInf (X : FVec F S8192x19x16 .f32) : FVec F S8192x19x16 .f32 :=
  select (cmpf .oeq X (broadcastInDim S8192x19x16 ![] bcast_S_S8192x19x16 (constant S_ .f32 0xFF800000#32)))
    (broadcastInDim S8192x19x16 ![] bcast_S_S8192x19x16 (id (constant S_ .f32 0xBF800000#32))) X

theorem result_eq (s : State F) : R_main_v61 s
    = transpose S19x16x8192 [1, 2, 0] (noNegInf (noInf (noNaN (oriented (firstVectors s.main_v29_4 s.main_v29_5))))) transposes_S8192x19x16_S19x16x8192_1_2_0 := by
  sl_kernel_rfl

/-! ## The pieces at a graph of real entries -/

theorem identity_real (i j : Fin 19) : identity (F := Ideal) (ix2 i j) = ((if i = j then 1 else 0 : ℝ) : EReal) := eye_real i j

theorem diagonal_apply (A : FVec Ideal S8192x19x19 .f32) (g : Fin 8192) (M : Fin 19 → Fin 19 → ℝ)
    (hA : ∀ i j, A (ix3 g i j) = ((M i j : ℝ) : EReal)) (i : Fin 19) : diagonal A (ix2 g i) = ((M i i : ℝ) : EReal) := by
  pointwise [diagonal]
  simp only [identity_real, hA, ← EReal.coe_mul, sum_real]
  congr 1
  simp

theorem along_apply (g : Fin 8192) (i k a : Fin 19) (h : 2 < S8192x19x19.rank) :
    Shape.Idx.along (s := S8192x19x19) (ix3 g i k) ⟨2, h⟩ a = ix3 g i a := by
  funext b
  match b with
  | ⟨0, _⟩ => rfl
  | ⟨1, _⟩ => rfl
  | ⟨2, _⟩ => rfl

/-- The comparison of real values. -/
theorem comparator_real (x y : ℝ) (u v : EReal) :
    (comparator_f32_f32_d2 (F := Ideal) ((x : EReal), u) ((y : EReal), v)) = BitVec.ofBool (decide (x < y)) := by
  have key : ∀ x : ℝ, Scalar.select (FloatOps.cmpf (F := Ideal) (φ := .f32) .une (x : EReal) (x : EReal)) (FloatOps.ofBits (F := Ideal) .f32 0x7FC00000#32)
      (Scalar.select (FloatOps.cmpf (F := Ideal) (φ := .f32) .oeq (x : EReal) (FloatOps.ofBits (F := Ideal) .f32 0x00000000#32))
        (FloatOps.ofBits (F := Ideal) .f32 0x00000000#32) (x : EReal)) = (x : EReal) := fun x => by
    have hz : FloatOps.ofBits (F := Ideal) .f32 0x00000000#32 = ((0 : ℝ) : EReal) := Ideal.ofBits_zero_f32.trans EReal.coe_zero.symm
    rw [hz]
    by_cases h : x = 0 <;> simp [Ideal.cmpf_def, Ideal.cmp, Scalar.select, h]
  unfold comparator_f32_f32_d2
  dsimp only
  rw [key, key, Ideal.cmpfTotal_def]
  exact congrArg BitVec.ofBool (decide_eq_decide.mpr EReal.coe_lt_coe_iff)

theorem firstVectors_at (A V : FVec Ideal S8192x19x19 .f32) (g : Fin 8192) (M : Fin 19 → Fin 19 → ℝ)
    (hA : ∀ i j, A (ix3 g i j) = ((M i j : ℝ) : EReal)) (i : Fin 19) (k : Fin 16) :
    firstVectors A V (ix3 g i k) = V (ix3 g i (sortedFrom (fun a b => decide (M a a < M b b)) (k.castLE (by decide)))) := by
  have hv : ∀ i j : Fin 19, values A (ix3 g i j) = ((M j j : ℝ) : EReal) := fun i j => by
    pointwise [values]
    exact diagonal_apply A g M hA j
  have hs : ∀ j : Fin 19, (Host.sort2 S8192x19x19 2 comparator_f32_f32_d2 (values A) V).2 (ix3 g i j)
      = V (ix3 g i (sortedFrom (fun a b => decide (M a a < M b b)) j)) := fun j => by
    unfold Host.sort2
    rw [dif_pos (show 2 < S8192x19x19.rank by decide)]
    dsimp only
    refine (congrArg V (along_apply g i j _ _)).trans ?_
    refine congrArg (fun p => V (ix3 g i p)) ?_
    refine congrArg (fun R : Fin 19 → Fin 19 → Bool => sortedFrom R j) ?_
    funext (a : Fin 19) (b : Fin 19)
    refine Eq.trans (b := comparator_f32_f32_d2 (F := Ideal) (values A (ix3 g i a), V (ix3 g i a)) (values A (ix3 g i b), V (ix3 g i b)) == 1#1) ?_ ?_
    · exact congrArg₂ (fun x y => comparator_f32_f32_d2 (F := Ideal) (values A x, V x) (values A y, V y) == 1#1)
        (along_apply g i j a _) (along_apply g i j b _)
    rw [hv, hv, comparator_real]
    by_cases h : M a a < M b b <;> simp [h]
  have : firstVectors A V (ix3 g i k) = (Host.sort2 S8192x19x19 2 comparator_f32_f32_d2 (values A) V).2 (ix3 g i (k.castLE (by decide))) := by
    pointwise [firstVectors]
    rfl
  rw [this, hs]

theorem oriented_at (W : FVec Ideal S8192x19x16 .f32) (g : Fin 8192) (k : Fin 16) (v : Fin 20 → ℝ)
    (h : ∀ i : Fin 19, W (ix3 g i k) = ((v i.castSucc : ℝ) : EReal)) (i : Fin 19) :
    oriented W (ix3 g i k) = ((Jacobi.oriented v i.castSucc : ℝ) : EReal) := by
  pointwise [oriented, signs]
  have hsum : (∑ x, W (ix3 g x k)) = ((∑ x : Fin 19, v x.castSucc : ℝ) : EReal) := by
    rw [← sum_real]; exact Finset.sum_congr rfl fun x _ => h x
  rw [hsum, h]
  unfold Jacobi.oriented
  rcases lt_trichotomy (∑ x : Fin 19, v x.castSucc) 0 with hs | hs | hs
  · rw [Ideal.sign_of_neg (EReal.coe_neg'.mpr hs), if_neg (show ¬ (-1 : EReal) = 0 by simp), if_pos hs, EReal.coe_mul, EReal.coe_neg, EReal.coe_one]
  · rw [hs, EReal.coe_zero, Ideal.sign_zero, if_pos rfl, if_neg (lt_irrefl _), EReal.coe_mul, EReal.coe_one]
  · rw [Ideal.sign_of_pos (EReal.coe_pos.mpr hs), if_neg one_ne_zero, if_neg hs.not_gt, EReal.coe_mul, EReal.coe_one]

theorem clean_at (X : FVec Ideal S8192x19x16 .f32) (g : Fin 8192) (i : Fin 19) (k : Fin 16) (x : ℝ) (hx : X (ix3 g i k) = (x : EReal)) :
    transpose S19x16x8192 [1, 2, 0] (noNegInf (noInf (noNaN X))) transposes_S8192x19x16_S19x16x8192_1_2_0 (ix3 i k g) = (x : EReal) := by
  have e : transpose S19x16x8192 [1, 2, 0] (noNegInf (noInf (noNaN X))) transposes_S8192x19x16_S19x16x8192_1_2_0 (ix3 i k g)
      = noNegInf (noInf (noNaN X)) (ix3 g i k) := by
    pointwise []
  rw [e]
  pointwise [noNegInf, noInf, noNaN]
  simp only [hx, top_lit, bot_lit, ne_eq, not_true_eq_false, if_false, EReal.coe_ne_top, EReal.coe_ne_bot]

/-- The result at a graph whose last values are below the bye's. -/
theorem result_at (s : State Ideal) (g : Fin 8192) (M : Mat × Mat) (hs : At s g M) (h : ∀ i : Fin 19, M.1 i.castSucc i.castSucc < M.1 19 19)
    (i : Fin 19) (k : Fin 16) :
    R_main_v61 s (ix3 i k g) = ((Jacobi.oriented (inPlace M.2 (fun i => M.1 i i) k.val) i.castSucc : ℝ) : EReal) := by
  rw [result_eq]
  refine clean_at _ g i k _ (oriented_at _ g k _ (fun i => ?_) i)
  rw [firstVectors_at _ _ g (fun i j => M.1 i.castSucc j.castSucc) hs.1, hs.2]
  congr 1
  exact (inPlace_eq M.2 (fun i => M.1 i i) h _ (fun a b hab => before_sortedFrom _ a b hab) (k.castLE (by decide)) i.castSucc).symm

/-! ## The start and the trips -/

open Cert.EigIdeal.Block (div_real sqrt_real two_lit kappa_lit least_lit)

/-- A node's degree, from below by the least one, to the power of -1/2. -/
theorem scale_at (X : FVec Ideal S8192x19x19 .f32) (g : Fin 8192) (w : Fin 19 → Fin 19 → ℝ)
    (hw : ∀ i j, X (ix3 g i j) = ((w i j : ℝ) : EReal)) (i : Fin 19) :
    Ideal.div 1 (Ideal.sqrt (max (Ideal.ofBits .f32 897988541#32) (∑ x, X (ix3 g i x)))) = ((scale w i : ℝ) : EReal) := by
  have hsum : (∑ x, X (ix3 g i x)) = ((∑ x : Fin 19, w i x : ℝ) : EReal) := by
    rw [← sum_real]; exact Finset.sum_congr rfl fun x _ => hw i x
  have hpos : 0 < max least (∑ x, w i x) := lt_max_of_lt_left least_pos
  rw [hsum, least_lit, ← EReal.coe_strictMono.monotone.map_max, sqrt_real hpos.le, ← EReal.coe_one, div_real _ (Real.sqrt_pos.mpr hpos).ne']
  rfl

/-- The first state is the Laplacian and the identity. -/
theorem init_at (X : S32x256x19x19.Idx → EReal) (g : Fin 8192) (w : Fin 19 → Fin 19 → ℝ)
    (hw : ∀ i j, A_main_v0 (F := Ideal) X (ix3 g i j) = ((w i j : ℝ) : EReal)) : At (init (F := Ideal) X) g (Jacobi.pad w, unit) := by
  refine ⟨fun x y => ?_, fun x y => ?_⟩
  · show A_main_v26 (F := Ideal) X (ix3 g x y) = _
    have e : A_main_v26 (F := Ideal) X (ix3 g x y)
        = Ideal.div (Ideal.ofBits .f32 1065353300#32 * K_main_v6 (F := Ideal) (ix2 x y)
            - Ideal.div 1 (Ideal.sqrt (max (Ideal.ofBits .f32 897988541#32) (∑ z, A_main_v0 (F := Ideal) X (ix3 g x z))))
              * A_main_v0 (F := Ideal) X (ix3 g x y)
              * Ideal.div 1 (Ideal.sqrt (max (Ideal.ofBits .f32 897988541#32) (∑ z, A_main_v0 (F := Ideal) X (ix3 g y z))))
          + (Ideal.ofBits .f32 1065353300#32 * K_main_v6 (F := Ideal) (ix2 y x)
            - Ideal.div 1 (Ideal.sqrt (max (Ideal.ofBits .f32 897988541#32) (∑ z, A_main_v0 (F := Ideal) X (ix3 g y z))))
              * A_main_v0 (F := Ideal) X (ix3 g y x)
              * Ideal.div 1 (Ideal.sqrt (max (Ideal.ofBits .f32 897988541#32) (∑ z, A_main_v0 (F := Ideal) X (ix3 g x z))))))
          (Ideal.ofBits .f32 1073741824#32) := by
      pointwise [A_main_v26, A_main_v24, A_main_v23, A_main_v22, A_main_v17, A_main_v16, A_main_v15, A_main_v14, A_main_v13, A_main_v12, A_main_v11, A_main_v9, A_main_v8, A_main_v7, K_main_v25, K_main_cst_3, K_main_v21, K_main_v20, K_main_v19, K_main_cst_2, K_main_v18, K_main_v10, K_main_cst_1, K_main_call0_v1, K_main_call0_v0, K_main_cst_0, K_main_cst]
      rfl
    rw [e, eye_real, eye_real, scale_at _ g w hw, scale_at _ g w hw, hw, hw]
    simp only [kappa_lit, two_lit]
    simp only [← EReal.coe_mul, ← EReal.coe_add, ← EReal.coe_sub]
    rw [div_real _ two_ne_zero]
    congr 1
    show _ = Jacobi.pad w x.castSucc y.castSucc
    have hp : Jacobi.pad w x.castSucc y.castSucc = lap w x y := by
      unfold Jacobi.pad
      rw [dif_pos (show x.castSucc.val < 19 from x.isLt), dif_pos (show y.castSucc.val < 19 from y.isLt)]
      rfl
    rw [hp]
    unfold lap
    by_cases h : x = y
    · subst h; simp only [if_true]; ring
    · rw [if_neg h, if_neg (Ne.symm h), if_neg h]; ring
  · show K_main_v28 (F := Ideal) (ix3 g x y) = _
    have e : K_main_v28 (F := Ideal) (ix3 g x y) = K_main_v6 (F := Ideal) (ix2 x y) := by
      pointwise [K_main_v28, K_main_v27]
    rw [e, eye_real]
    simp [unit]

/-- The state after some trips. -/
def trips (X : S32x256x19x19.Idx → EReal) : ℕ → State Ideal
  | 0 => init X
  | k + 1 => step k (trips X k)

theorem trips_at (X : S32x256x19x19.Idx → EReal) (g : Fin 8192) (w : Fin 19 → Fin 19 → ℝ)
    (hw : ∀ i j, A_main_v0 (F := Ideal) X (ix3 g i j) = ((w i j : ℝ) : EReal)) :
    ∀ k ≤ 1330, At (trips X k) g (turns (Jacobi.pad w, unit) k)
  | 0, _ => init_at X g w hw
  | k + 1, hk => step_at k hk (trips X k) g _ (trips_at X g w hw k (Nat.le_of_succ_le hk)) 1000000
      (turns_bye 1000000 (Jacobi.pad w, unit) (pad_bye w) k)

/-- The result, at a graph with weights between zero and one. -/
theorem trips_result (X : S32x256x19x19.Idx → EReal) (g : Fin 8192) (w : Fin 19 → Fin 19 → ℝ)
    (hw : ∀ i j, A_main_v0 (F := Ideal) X (ix3 g i j) = ((w i j : ℝ) : EReal)) (h0 : ∀ i j, 0 ≤ w i j) (h1 : ∀ i j, w i j ≤ 1)
    (i : Fin 19) (k : Fin 16) : R_main_v61 (trips X 1330) (ix3 i k g) = ((encoding w k.val i : ℝ) : EReal) := by
  have h := trips_at X g w hw 1330 le_rfl
  rw [show turns (Jacobi.pad w, unit) 1330 = swept w from turns_eq_tour (Jacobi.pad w, unit) (pad_symm w) 133] at h
  exact result_at _ g _ h (diag_lt w h0 h1) i k

end Cert.JacobiIdeal.Graph

end
-- ==== Proof.EigClaims.lean ====
/-
  The first call's value claim: at weights between zero and one, the kernel's result array and the reference's are both
  `Cert.Jacobi.encoding` of the weights, graph by graph; and the reference's frame.
-/
module

public import proofs.«01_k».proof.Defs
public import proofs.«01_k».proof.Proof.EigValue
public import proofs.«01_k».proof.Proof.JacobiResult
public import proofs.«01_k».proof.Proof.Gen.JacobiIdeal.StepRun
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.EigClaims

/-- One, as a literal. -/
theorem one_lit : Ideal.ofBits .f32 0x3F800000#32 = ((1 : ℝ) : EReal) := by
  simp [Ideal.ofBits, Ideal.ieee]; norm_cast; norm_num

/-- The side condition of the precondition's operations. -/
theorem unit_facts : Cert.Pre_unit_weights.Facts := ⟨by decide⟩

/-- A weight the precondition admits is a real number between zero and one. -/
theorem unit_entry (x : EReal) (h : IntOp.andi (FloatOps.cmpf (F := Ideal) (φ := .f32) .oge x (Ideal.ofBits .f32 0x00000000#32))
    (FloatOps.cmpf (F := Ideal) (φ := .f32) .ole x (Ideal.ofBits .f32 0x3F800000#32)) = 1#1) :
    x = ((x.toReal : ℝ) : EReal) ∧ 0 ≤ x.toReal ∧ x.toReal ≤ 1 := by
  rw [Ideal.ofBits_zero_f32, one_lit] at h
  have h0 : 0 ≤ x := by
    by_contra hx
    rw [Ideal.cmpf_def, show Ideal.cmp .oge x 0 = 0#1 by simp [Ideal.cmp, hx]] at h
    revert h; generalize FloatOps.cmpf (F := Ideal) (φ := .f32) .ole x ((1 : ℝ) : EReal) = b; revert b; decide
  have h1 : x ≤ ((1 : ℝ) : EReal) := by
    by_contra hx
    rw [Ideal.cmpf_def .ole, show Ideal.cmp .ole x ((1 : ℝ) : EReal) = 0#1 by simp only [Ideal.cmp]; rw [decide_eq_false hx]; rfl] at h
    revert h; generalize FloatOps.cmpf (F := Ideal) (φ := .f32) .oge x 0 = b; revert b; decide
  have hr : x = ((x.toReal : ℝ) : EReal) :=
    (EReal.coe_toReal (fun e => absurd (e ▸ h1) (not_le.mpr (EReal.coe_lt_top 1))) (fun e => absurd (e ▸ h0) (not_le.mpr EReal.bot_lt_zero))).symm
  exact ⟨hr, EReal.coe_nonneg.mp (hr ▸ h0), EReal.coe_le_coe_iff.mp (hr ▸ h1)⟩

/-- The weights of a whole array the precondition admits. -/
theorem unit_array (X : Cert.EigIdeal.S32x256x19x19.Idx → EReal)
    (h : @Cert.Pre_unit_weights.fn unit_facts Ideal _ X = fun _ => 1#1) (y : Cert.EigIdeal.S32x256x19x19.Idx) :
    X y = (((X y).toReal : ℝ) : EReal) ∧ 0 ≤ (X y).toReal ∧ (X y).toReal ≤ 1 :=
  unit_entry (X y) (congrFun h y)

/-- The frame of the reference: its run leaves its argument; it declares no semaphore. -/
theorem frame_reference : Cert.quiescent_JacobiIdeal := fun m ρ _ =>
  (θ_run Cert.JacobiIdeal.defs _ _).mono (fun r h => ⟨fun c => (h c).2, sem_eq_zero_of_no_sems (by decide) r.2⟩)
    (Cert.JacobiIdeal.Value.run (F := Ideal) m ρ)

/-- The weights of a graph, as the kernel's argument holds them. -/
def weights (X : Cert.EigIdeal.S32x256x19x19.Idx → EReal) (g : Fin 8192) (i j : Fin 19) : ℝ :=
  (Cert.EigIdeal.Whole.byGraph X (ix3 g i j)).toReal

/-- The kernel's and the reference's result arrays are equal, element by element. -/
theorem algebraic : Cert.algebraic_EigIdeal_JacobiIdeal_pre_unit_weights (hPre_unit_weights := unit_facts) := by
  intro m ρ m' ρ' hpre hagree
  have hw : ∀ (c : Dev Cert.EigIdeal.nD) (g : Fin 8192) (i j : Fin 19),
      Cert.EigIdeal.Whole.byGraph (m ((c.tc : Thread Cert.EigIdeal.nD Cert.EigIdeal.τ).loc Cert.EigIdeal.main_arg0)) (ix3 g i j)
        = ((weights (m ((c.tc : Thread Cert.EigIdeal.nD Cert.EigIdeal.τ).loc Cert.EigIdeal.main_arg0)) g i j : ℝ) : EReal)
      ∧ 0 ≤ weights (m ((c.tc : Thread Cert.EigIdeal.nD Cert.EigIdeal.τ).loc Cert.EigIdeal.main_arg0)) g i j
      ∧ weights (m ((c.tc : Thread Cert.EigIdeal.nD Cert.EigIdeal.τ).loc Cert.EigIdeal.main_arg0)) g i j ≤ 1 :=
    fun c g i j => unit_array _ (hpre c) _
  refine ⟨fun c => Cert.EigIdeal.Whole.G c (weights (m ((c.tc : Thread Cert.EigIdeal.nD Cert.EigIdeal.τ).loc Cert.EigIdeal.main_arg0))), ?_, ?_⟩
  · exact (θ_run Cert.EigIdeal.defs _ _).mono
      (fun _ h c => ⟨(h c).1.trans (Cert.EigIdeal.Whole.final m c _ fun g i j => (hw c g i j).1), (h c).2⟩)
      (Cert.EigIdeal.Value.run_blocks (F := Ideal) m ρ)
  · refine (θ_run Cert.JacobiIdeal.defs _ _).mono (fun _ h c => ⟨?_, (h c).2⟩)
      (Cert.JacobiIdeal.StepRun.run_iter (F := Ideal) m' ρ'
        (fun c k => Cert.JacobiIdeal.Graph.trips (m' ((c.tc : Thread Cert.JacobiIdeal.nD Cert.JacobiIdeal.τ).loc Cert.JacobiIdeal.main_arg0)) k)
        (fun _ => rfl) (fun _ _ => rfl))
    refine (h c).1.trans ?_
    funext y
    rw [hagree c]
    refine (congrArg _ (eq_ix3 y)).trans ?_
    exact Cert.JacobiIdeal.Graph.trips_result _ (y 2) (weights (m ((c.tc : Thread Cert.EigIdeal.nD Cert.EigIdeal.τ).loc Cert.EigIdeal.main_arg0)) (y 2))
      (fun i j => (hw c (y 2) i j).1) (fun i j => (hw c (y 2) i j).2.1) (fun i j => (hw c (y 2) i j).2.2) (y 0) (y 1)

end Cert.Proof.EigClaims

end
-- ==== Proof.lean ====
module

public import proofs.«01_k».proof.Defs
public import proofs.«01_k».proof.Proof.Gen.Mixer
public import proofs.«01_k».proof.Proof.Gen.Mixer.Skeleton
public import proofs.«01_k».proof.Proof.Gen.Mixer.Launch
public import proofs.«01_k».proof.Proof.Gen.Mixer.Points
public import proofs.«01_k».proof.Proof.Gen.Mixer.Frame
public import proofs.«01_k».proof.Proof.Gen.MixerIdeal
public import proofs.«01_k».proof.Proof.Gen.MixerIdeal.Skeleton
public import proofs.«01_k».proof.Proof.Gen.MixerIdeal.Launch
public import proofs.«01_k».proof.Proof.Gen.MixerIdeal.Points
public import proofs.«01_k».proof.Proof.Gen.MixerIdeal.Frame
public import proofs.«01_k».proof.Proof.Gen.ReferenceIdeal
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.MixerIdeal.Value
public import proofs.«01_k».proof.Proof.Gen.ReferenceIdeal.Read
public import proofs.«01_k».proof.Proof.Gen.ReferenceIdeal.Run
public import proofs.«01_k».proof.Proof.Gen.Eig
public import proofs.«01_k».proof.Proof.Gen.Eig.Skeleton
public import proofs.«01_k».proof.Proof.Gen.Eig.Loops
public import proofs.«01_k».proof.Proof.Gen.Eig.Launch
public import proofs.«01_k».proof.Proof.Gen.Eig.Points
public import proofs.«01_k».proof.Proof.Gen.Eig.Frame
public import proofs.«01_k».proof.Proof.Gen.EigIdeal
public import proofs.«01_k».proof.Proof.Gen.EigIdeal.Skeleton
public import proofs.«01_k».proof.Proof.Gen.EigIdeal.Loops
public import proofs.«01_k».proof.Proof.Gen.EigIdeal.Launch
public import proofs.«01_k».proof.Proof.Gen.EigIdeal.Points
public import proofs.«01_k».proof.Proof.Gen.EigIdeal.Frame
public import proofs.«01_k».proof.Proof.Gen.EigIdeal.Value
public import proofs.«01_k».proof.Proof.Gen.JacobiIdeal
public import proofs.«01_k».proof.Proof.Gen.JacobiIdeal.Step
public import proofs.«01_k».proof.Proof.Gen.JacobiIdeal.StepRun
public import proofs.«01_k».proof.Proof.MixerClaims
public import proofs.«01_k».proof.Proof.EigClaims
public import Idealize.ShloMosaic.Adequacy
public import Idealize.ShloMosaic.Init

@[expose] public section

noncomputable section

namespace Cert.Proof

open Idealize.ShloMosaic Idealize.SL.Sem Cert.Mixer

/-- Everything claimed: the frames of both calls, of their references and of the whole kernel; that nothing is lost between
    the programs as written and their ideal forms; and that each call's result is its reference's. -/
theorem claim : Cert.Claim := ⟨Cert.Mixer.Gen.facts, Cert.MixerIdeal.Gen.facts, Cert.ReferenceIdeal.Gen.facts,
  Cert.Kernel.Gen.facts, Cert.KernelIdeal.Gen.facts, Cert.Eig.Gen.facts, Cert.EigIdeal.Gen.facts, Cert.JacobiIdeal.Gen.facts,
  EigClaims.unit_facts,
  fun m ρ _ => Cert.Mixer.Gen.frame m ρ, fun m ρ _ => Cert.MixerIdeal.Gen.frame m ρ, MixerClaims.frame_reference,
  fun m ρ _ => Cert.Kernel.Gen.frame m ρ, fun m ρ _ => Cert.KernelIdeal.Gen.frame m ρ,
  fun m ρ _ => Cert.Eig.Gen.frame m ρ, fun m ρ _ => Cert.EigIdeal.Gen.frame m ρ, fun m ρ _ => Cert.EigIdeal.Gen.frame m ρ,
  EigClaims.frame_reference, fun m ρ _ => EigClaims.frame_reference m ρ trivial,
  trivial, MixerClaims.algebraic, IdealRules.sign_bit.statement Cert.KernelIdeal.S1x512 .f32,
  IdealRules.sign_bit.statement Cert.EigIdeal.S1x512 .f32, EigClaims.algebraic⟩

end Cert.Proof

end
